-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_available_no_bias [hPre_all_available_no_bias : Cert.Pre_all_available_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_all_available_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_all_available_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_all_available_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_available_no_bias [hPre_all_available_no_bias : Cert.Pre_all_available_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_available_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_all_available_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_all_available_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_all_available_no_bias [hKernelIdeal : Cert.KernelIdeal.Facts] [hPre_all_available_no_bias : Cert.Pre_all_available_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_available_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_all_available_no_bias [hReferenceIdeal : Cert.ReferenceIdeal.Facts] [hPre_all_available_no_bias : Cert.Pre_all_available_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_available_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_all_available_no_bias [hKernelIdeal : Cert.KernelIdeal.Facts] [hReferenceIdeal : Cert.ReferenceIdeal.Facts] [hPre_all_available_no_bias : Cert.Pre_all_available_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_available_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_all_available_no_bias : Cert.Pre_all_available_no_bias.Facts),
    quiescent_Kernel (hKernel := hKernel)
    ∧ quiescent_KernelIdeal (hKernelIdeal := hKernelIdeal)
    ∧ quiescent_KernelIdeal_pre_all_available_no_bias (hKernelIdeal := hKernelIdeal) (hPre_all_available_no_bias := hPre_all_available_no_bias)
    ∧ quiescent_ReferenceIdeal (hReferenceIdeal := hReferenceIdeal)
    ∧ quiescent_ReferenceIdeal_pre_all_available_no_bias (hReferenceIdeal := hReferenceIdeal) (hPre_all_available_no_bias := hPre_all_available_no_bias)
    ∧ preserves_Kernel_KernelIdeal
    ∧ algebraic_KernelIdeal_ReferenceIdeal_pre_all_available_no_bias (hKernelIdeal := hKernelIdeal) (hReferenceIdeal := hReferenceIdeal) (hPre_all_available_no_bias := hPre_all_available_no_bias)
-- ==== Pre_all_available_no_bias.lean ====
abbrev S4x16384x128 : Shape := ⟨3, ![4, 16384, 128]⟩
abbrev S4 : Shape := ⟨1, ![4]⟩
abbrev S4x128x128 : Shape := ⟨3, ![4, 128, 128]⟩
abbrev S4x128 : Shape := ⟨2, ![4, 128]⟩
abbrev S6x128x128 : Shape := ⟨3, ![6, 128, 128]⟩
abbrev S6x128 : Shape := ⟨2, ![6, 128]⟩
abbrev S_ : Shape := ⟨0, ![]⟩

class Facts : Prop where
  bcast_S_S4 : S_.BroadcastsInDim S4 (![] : Fin 0 → Fin S4.rank)
  bcast_S_S4x128 : S_.BroadcastsInDim S4x128 (![] : Fin 0 → Fin S4x128.rank)
  bcast_S_S6x128 : S_.BroadcastsInDim S6x128 (![] : Fin 0 → Fin S6x128.rank)

variable [Facts]

def fn {F : FTy → Type} [FloatOps F] (main_arg0 : FVec F S4x16384x128 .f32) (main_arg1 : FVec F S4x16384x128 .f32) (main_arg2 : FVec F S4 .f32) (main_arg3 : FVec F S4x128x128 .f32) (main_arg4 : FVec F S4x128 .f32) (main_arg5 : FVec F S6x128x128 .f32) (main_arg6 : FVec F S6x128 .f32) (main_arg7 : FVec F S4 .f32) : IVec S4 1 × IVec S4x128 1 × IVec S6x128 1 :=
  let main_cst : FVec F S_ .f32 := constant S_ .f32 0x3F800000#32
  let main_v0 : FVec F S4 .f32 := broadcastInDim S4 ![] bcast_S_S4 main_cst
  let main_v1 : IVec S4 1 := cmpf .oeq main_arg2 main_v0
  let main_cst_0 : FVec F S_ .f32 := constant S_ .f32 0x00000000#32
  let main_v2 : FVec F S4x128 .f32 := broadcastInDim S4x128 ![] bcast_S_S4x128 main_cst_0
  let main_v3 : IVec S4x128 1 := cmpf .oeq main_arg4 main_v2
  let main_cst_1 : FVec F S_ .f32 := constant S_ .f32 0x00000000#32
  let main_v4 : FVec F S6x128 .f32 := broadcastInDim S6x128 ![] bcast_S_S6x128 main_cst_1
  let main_v5 : IVec S6x128 1 := cmpf .oeq main_arg6 main_v4
  (main_v1, main_v3, main_v5)
-- ==== Kernel.lean ====
abbrev S4x16384x128 : Shape := ⟨3, ![4, 16384, 128]⟩
abbrev S4 : Shape := ⟨1, ![4]⟩
abbrev S4x128x128 : Shape := ⟨3, ![4, 128, 128]⟩
abbrev S4x128 : Shape := ⟨2, ![4, 128]⟩
abbrev S6x128x128 : Shape := ⟨3, ![6, 128, 128]⟩
abbrev S6x128 : Shape := ⟨2, ![6, 128]⟩
abbrev S_ : Shape := ⟨0, ![]⟩
abbrev S1x4 : Shape := ⟨2, ![1, 4]⟩
abbrev S16384x128 : Shape := ⟨2, ![16384, 128]⟩
abbrev S4x2048x128 : Shape := ⟨3, ![4, 2048, 128]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩
abbrev S1x1 : Shape := ⟨2, ![1, 1]⟩

abbrev nBuf : Space → Nat
  | .hbm => 17
  | .vmem => 13
  | .smem => 0
  | _ => 0

abbrev bufTy : (tb : Table) → Fin (tcTables nBuf tb) → BufTy
  | .hbm, ⟨0, _⟩ => ⟨S4x16384x128, .f32⟩
  | .hbm, ⟨1, _⟩ => ⟨S4x16384x128, .f32⟩
  | .hbm, ⟨2, _⟩ => ⟨S4, .f32⟩
  | .hbm, ⟨3, _⟩ => ⟨S4x128x128, .f32⟩
  | .hbm, ⟨4, _⟩ => ⟨S4x128, .f32⟩
  | .hbm, ⟨5, _⟩ => ⟨S6x128x128, .f32⟩
  | .hbm, ⟨6, _⟩ => ⟨S6x128, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S1x4, .f32⟩
  | .hbm, ⟨14, _⟩ => ⟨S16384x128, .f32⟩
  | .hbm, ⟨15, _⟩ => ⟨S16384x128, .f32⟩
  | .hbm, ⟨16, _⟩ => ⟨S16384x128, .f32⟩
  | .local _ .vmem, ⟨0, _⟩ => ⟨S4x2048x128, .f32⟩
  | .local _ .vmem, ⟨1, _⟩ => ⟨S4x2048x128, .f32⟩
  | .local _ .vmem, ⟨2, _⟩ => ⟨S4x2048x128, .f32⟩
  | .local _ .vmem, ⟨3, _⟩ => ⟨S4x2048x128, .f32⟩
  | .local _ .vmem, ⟨4, _⟩ => ⟨S4x128x128, .f32⟩
  | .local _ .vmem, ⟨5, _⟩ => ⟨S6x128x128, .f32⟩
  | .local _ .vmem, ⟨6, _⟩ => ⟨S1x4, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x16384x128 : Shape := ⟨3, ![4, 16384, 128]⟩
abbrev S4 : Shape := ⟨1, ![4]⟩
abbrev S4x128x128 : Shape := ⟨3, ![4, 128, 128]⟩
abbrev S4x128 : Shape := ⟨2, ![4, 128]⟩
abbrev S6x128x128 : Shape := ⟨3, ![6, 128, 128]⟩
abbrev S6x128 : Shape := ⟨2, ![6, 128]⟩
abbrev S1x4 : Shape := ⟨2, ![1, 4]⟩
abbrev S16384x4 : Shape := ⟨2, ![16384, 4]⟩
abbrev S_ : Shape := ⟨0, ![]⟩
abbrev S16384x2 : Shape := ⟨2, ![16384, 2]⟩
abbrev S16384x6 : Shape := ⟨2, ![16384, 6]⟩
abbrev S1 : Shape := ⟨1, ![1]⟩
abbrev S2 : Shape := ⟨1, ![2]⟩
abbrev S4x1x128 : Shape := ⟨3, ![4, 1, 128]⟩
abbrev S16384 : Shape := ⟨1, ![16384]⟩
abbrev S16384x1 : Shape := ⟨2, ![16384, 1]⟩
abbrev S16384x1x4 : Shape := ⟨3, ![16384, 1, 4]⟩
abbrev S16384x128x4 : Shape := ⟨3, ![16384, 128, 4]⟩
abbrev S1x1x1 : Shape := ⟨3, ![1, 1, 1]⟩
abbrev S16384x128 : Shape := ⟨2, ![16384, 128]⟩
abbrev S16384x128x1 : Shape := ⟨3, ![16384, 128, 1]⟩
abbrev S1x1x4 : Shape := ⟨3, ![1, 1, 4]⟩
abbrev S16384x4x128 : Shape := ⟨3, ![16384, 4, 128]⟩
abbrev S16384x4x1 : Shape := ⟨3, ![16384, 4, 1]⟩
abbrev S1x16384x128 : Shape := ⟨3, ![1, 16384, 128]⟩
abbrev S6x16384x128 : Shape := ⟨3, ![6, 16384, 128]⟩
abbrev S6x1x128 : Shape := ⟨3, ![6, 1, 128]⟩
abbrev S16384x1x6 : Shape := ⟨3, ![16384, 1, 6]⟩
abbrev S16384x128x6 : Shape := ⟨3, ![16384, 128, 6]⟩
abbrev S1x1x6 : Shape := ⟨3, ![1, 1, 6]⟩

abbrev nBuf : Space → Nat
  | .hbm => 670
  | .vmem => 0
  | .smem => 0
  | _ => 0

abbrev hbmTy0_0 (i : Nat) : BufTy := match i % 128 with
  | 0 => ⟨S4x16384x128, .f32⟩
  | 1 => ⟨S4x16384x128, .f32⟩
  | 2 => ⟨S4, .f32⟩
  | 3 => ⟨S4x128x128, .f32⟩
  | 4 => ⟨S4x128, .f32⟩
  | 5 => ⟨S6x128x128, .f32⟩
  | 6 => ⟨S6x128, .f32⟩
  | 7 => ⟨S4, .f32⟩
  | 8 => ⟨S1x4, .f32⟩
  | 9 => ⟨S16384x4, .f32⟩
  | 10 => ⟨S_, .f32⟩
  | 11 => ⟨S16384x2, .f32⟩
  | 12 => ⟨S16384x6, .f32⟩
  | 13 => ⟨S_, .f32⟩
  | 14 => ⟨S16384x4, .f32⟩
  | 15 => ⟨S_, .f32⟩
  | 16 => ⟨S16384x4, .f32⟩
  | 17 => ⟨S16384x4, .f32⟩
  | 18 => ⟨S_, .f32⟩
  | 19 => ⟨S16384x6, .f32⟩
  | 20 => ⟨S_, .f32⟩
  | 21 => ⟨S16384x6, .f32⟩
  | 22 => ⟨S16384x6, .f32⟩
  | 23 => ⟨S16384x4, .f32⟩
  | 24 => ⟨S_, .i32⟩
  | 25 => ⟨S_, .i32⟩
  | 26 => ⟨S_, .i32⟩
  | 27 => ⟨S_, .i32⟩
  | 28 => ⟨S1, .i32⟩
  | 29 => ⟨S_, .i32⟩
  | 30 => ⟨S_, .i32⟩
  | 31 => ⟨S_, .i32⟩
  | 32 => ⟨S1, .i32⟩
  | 33 => ⟨S2, .i32⟩
  | 34 => ⟨S4x16384x128, .f32⟩
  | 35 => ⟨S4x1x128, .f32⟩
  | 36 => ⟨S4x16384x128, .f32⟩
  | 37 => ⟨S4x16384x128, .f32⟩
  | 38 => ⟨S_, .f32⟩
  | 39 => ⟨S4x16384x128, .f32⟩
  | 40 => ⟨S4x16384x128, .f32⟩
  | 41 => ⟨S16384x4, .f32⟩
  | 42 => ⟨S_, .f32⟩
  | 43 => ⟨S16384, .f32⟩
  | 44 => ⟨S16384x1, .f32⟩
  | 45 => ⟨S16384x4, .f32⟩
  | 46 => ⟨S16384x4, .f32⟩
  | 47 => ⟨S16384x4, .f32⟩
  | 48 => ⟨S16384x1x4, .f32⟩
  | 49 => ⟨S16384x128x4, .f32⟩
  | 50 => ⟨S_, .f32⟩
  | 51 => ⟨S_, .f32⟩
  | 52 => ⟨S_, .f32⟩
  | 53 => ⟨S1x1x1, .f32⟩
  | 54 => ⟨S1x1x1, .f32⟩
  | 55 => ⟨S1, .i32⟩
  | 56 => ⟨S_, .i32⟩
  | 57 => ⟨S1, .i32⟩
  | 58 => ⟨S_, .i32⟩
  | 59 => ⟨S16384x128x4, .i64⟩
  | 60 => ⟨S16384x128x4, .i64⟩
  | 61 => ⟨S16384x128x4, .i64⟩
  | 62 => ⟨S_, .i64⟩
  | 63 => ⟨S16384x128x4, .i64⟩
  | 64 => ⟨S16384x128x4, .i64⟩
  | 65 => ⟨S_, .i64⟩
  | 66 => ⟨S16384x128x4, .i64⟩
  | 67 => ⟨S16384x128x4, .i64⟩
  | 68 => ⟨S_, .i64⟩
  | 69 => ⟨S16384x128x4, .i64⟩
  | 70 => ⟨S16384x128x4, .i64⟩
  | 71 => ⟨S16384x128x4, .i64⟩
  | 72 => ⟨S16384x128x4, .i64⟩
  | 73 => ⟨S_, .i64⟩
  | 74 => ⟨S16384x128x4, .i64⟩
  | 75 => ⟨S16384x128x4, .i64⟩
  | 76 => ⟨S16384x128x4, .i32⟩
  | 77 => ⟨S16384x128x4, .i32⟩
  | 78 => ⟨S_, .i32⟩
  | 79 => ⟨S_, .i32⟩
  | 80 => ⟨S_, .i32⟩
  | 81 => ⟨S16384x128x4, .i32⟩
  | 82 => ⟨S16384x128x4, .i32⟩
  | 83 => ⟨S16384x128x4, .i32⟩
  | 84 => ⟨S16384x128x4, .i32⟩
  | 85 => ⟨S16384x128x4, .i32⟩
  | 86 => ⟨S_, .i32⟩
  | 87 => ⟨S16384x128x4, .i32⟩
  | 88 => ⟨S16384x128x4, .i32⟩
  | 89 => ⟨S_, .i32⟩
  | 90 => ⟨S16384x128x4, .i32⟩
  | 91 => ⟨S16384x128x4, .i32⟩
  | 92 => ⟨S16384x128x4, .i32⟩
  | 93 => ⟨S16384x128x4, .i32⟩
  | 94 => ⟨S16384x128x4, .i32⟩
  | 95 => ⟨S_, .i32⟩
  | 96 => ⟨S16384x128x4, .i32⟩
  | 97 => ⟨S16384x128x4, .i32⟩
  | 98 => ⟨S_, .i32⟩
  | 99 => ⟨S16384x128x4, .i32⟩
  | 100 => ⟨S16384x128x4, .i32⟩
  | 101 => ⟨S16384x128x4, .i32⟩
  | 102 => ⟨S16384x128x4, .i32⟩
  | 103 => ⟨S16384x128x4, .i32⟩
  | 104 => ⟨S_, .i32⟩
  | 105 => ⟨S16384x128x4, .i32⟩
  | 106 => ⟨S16384x128x4, .i32⟩
  | 107 => ⟨S_, .i32⟩
  | 108 => ⟨S16384x128x4, .i32⟩
  | 109 => ⟨S16384x128x4, .i32⟩
  | 110 => ⟨S16384x128x4, .i32⟩
  | 111 => ⟨S16384x128x4, .i32⟩
  | 112 => ⟨S16384x128x4, .i32⟩
  | 113 => ⟨S_, .i32⟩
  | 114 => ⟨S16384x128x4, .i32⟩
  | 115 => ⟨S16384x128x4, .i32⟩
  | 116 => ⟨S_, .i32⟩
  | 117 => ⟨S16384x128x4, .i32⟩
  | 118 => ⟨S16384x128x4, .i32⟩
  | 119 => ⟨S16384x128x4, .i32⟩
  | 120 => ⟨S16384x128x4, .i32⟩
  | 121 => ⟨S16384x128x4, .i32⟩
  | 122 => ⟨S16384x128x4, .i32⟩
  | 123 => ⟨S16384x128x4, .i32⟩
  | 124 => ⟨S16384x128x4, .i32⟩
  | 125 => ⟨S_, .i32⟩
  | 126 => ⟨S16384x128x4, .i32⟩
  | 127 => ⟨S16384x128x4, .i32⟩
  | _ => ⟨S4x16384x128, .f32⟩

abbrev hbmTy0_1 (i : Nat) : BufTy := match i % 128 with
  | 0 => ⟨S16384x128x4, .i32⟩
  | 1 => ⟨S_, .i32⟩
  | 2 => ⟨S16384x128x4, .i32⟩
  | 3 => ⟨S16384x128x4, .i32⟩
  | 4 => ⟨S_, .i32⟩
  | 5 => ⟨S16384x128x4, .i32⟩
  | 6 => ⟨S16384x128x4, .i32⟩
  | 7 => ⟨S16384x128x4, .i32⟩
  | 8 => ⟨S16384x128x4, .i32⟩
  | 9 => ⟨S16384x128x4, .i32⟩
  | 10 => ⟨S_, .i32⟩
  | 11 => ⟨S16384x128x4, .i32⟩
  | 12 => ⟨S16384x128x4, .i32⟩
  | 13 => ⟨S_, .i32⟩
  | 14 => ⟨S16384x128x4, .i32⟩
  | 15 => ⟨S16384x128x4, .i32⟩
  | 16 => ⟨S16384x128x4, .i32⟩
  | 17 => ⟨S16384x128x4, .i32⟩
  | 18 => ⟨S16384x128x4, .i32⟩
  | 19 => ⟨S_, .i32⟩
  | 20 => ⟨S16384x128x4, .i32⟩
  | 21 => ⟨S16384x128x4, .i32⟩
  | 22 => ⟨S_, .i32⟩
  | 23 => ⟨S16384x128x4, .i32⟩
  | 24 => ⟨S16384x128x4, .i32⟩
  | 25 => ⟨S16384x128x4, .i32⟩
  | 26 => ⟨S16384x128x4, .i32⟩
  | 27 => ⟨S16384x128x4, .i32⟩
  | 28 => ⟨S_, .i32⟩
  | 29 => ⟨S16384x128x4, .i32⟩
  | 30 => ⟨S16384x128x4, .i32⟩
  | 31 => ⟨S_, .i32⟩
  | 32 => ⟨S16384x128x4, .i32⟩
  | 33 => ⟨S16384x128x4, .i32⟩
  | 34 => ⟨S16384x128x4, .i32⟩
  | 35 => ⟨S16384x128x4, .i32⟩
  | 36 => ⟨S16384x128x4, .i32⟩
  | 37 => ⟨S16384x128x4, .i32⟩
  | 38 => ⟨S16384x128x4, .i32⟩
  | 39 => ⟨S16384x128x4, .i32⟩
  | 40 => ⟨S_, .i32⟩
  | 41 => ⟨S16384x128x4, .i32⟩
  | 42 => ⟨S16384x128x4, .i32⟩
  | 43 => ⟨S16384x128x4, .i32⟩
  | 44 => ⟨S_, .i32⟩
  | 45 => ⟨S16384x128x4, .i32⟩
  | 46 => ⟨S16384x128x4, .i32⟩
  | 47 => ⟨S_, .i32⟩
  | 48 => ⟨S16384x128x4, .i32⟩
  | 49 => ⟨S16384x128x4, .i32⟩
  | 50 => ⟨S16384x128x4, .i32⟩
  | 51 => ⟨S16384x128x4, .i32⟩
  | 52 => ⟨S16384x128x4, .i32⟩
  | 53 => ⟨S_, .i32⟩
  | 54 => ⟨S16384x128x4, .i32⟩
  | 55 => ⟨S16384x128x4, .i32⟩
  | 56 => ⟨S_, .i32⟩
  | 57 => ⟨S16384x128x4, .i32⟩
  | 58 => ⟨S16384x128x4, .i32⟩
  | 59 => ⟨S16384x128x4, .i32⟩
  | 60 => ⟨S16384x128x4, .i32⟩
  | 61 => ⟨S16384x128x4, .i32⟩
  | 62 => ⟨S_, .i32⟩
  | 63 => ⟨S16384x128x4, .i32⟩
  | 64 => ⟨S16384x128x4, .i32⟩
  | 65 => ⟨S_, .i32⟩
  | 66 => ⟨S16384x128x4, .i32⟩
  | 67 => ⟨S16384x128x4, .i32⟩
  | 68 => ⟨S16384x128x4, .i32⟩
  | 69 => ⟨S16384x128x4, .i32⟩
  | 70 => ⟨S16384x128x4, .i32⟩
  | 71 => ⟨S_, .i32⟩
  | 72 => ⟨S16384x128x4, .i32⟩
  | 73 => ⟨S16384x128x4, .i32⟩
  | 74 => ⟨S_, .i32⟩
  | 75 => ⟨S16384x128x4, .i32⟩
  | 76 => ⟨S16384x128x4, .i32⟩
  | 77 => ⟨S16384x128x4, .i32⟩
  | 78 => ⟨S16384x128x4, .i32⟩
  | 79 => ⟨S16384x128x4, .i32⟩
  | 80 => ⟨S16384x128x4, .i32⟩
  | 81 => ⟨S16384x128x4, .i32⟩
  | 82 => ⟨S16384x128x4, .i32⟩
  | 83 => ⟨S_, .i32⟩
  | 84 => ⟨S16384x128x4, .i32⟩
  | 85 => ⟨S16384x128x4, .i32⟩
  | 86 => ⟨S16384x128x4, .i32⟩
  | 87 => ⟨S_, .i32⟩
  | 88 => ⟨S16384x128x4, .i32⟩
  | 89 => ⟨S16384x128x4, .i32⟩
  | 90 => ⟨S_, .i32⟩
  | 91 => ⟨S16384x128x4, .i32⟩
  | 92 => ⟨S16384x128x4, .i32⟩
  | 93 => ⟨S16384x128x4, .i32⟩
  | 94 => ⟨S16384x128x4, .i32⟩
  | 95 => ⟨S16384x128x4, .i32⟩
  | 96 => ⟨S_, .i32⟩
  | 97 => ⟨S16384x128x4, .i32⟩
  | 98 => ⟨S16384x128x4, .i32⟩
  | 99 => ⟨S_, .i32⟩
  | 100 => ⟨S16384x128x4, .i32⟩
  | 101 => ⟨S16384x128x4, .i32⟩
  | 102 => ⟨S16384x128x4, .i32⟩
  | 103 => ⟨S16384x128x4, .i32⟩
  | 104 => ⟨S16384x128x4, .i32⟩
  | 105 => ⟨S_, .i32⟩
  | 106 => ⟨S16384x128x4, .i32⟩
  | 107 => ⟨S16384x128x4, .i32⟩
  | 108 => ⟨S_, .i32⟩
  | 109 => ⟨S16384x128x4, .i32⟩
  | 110 => ⟨S16384x128x4, .i32⟩
  | 111 => ⟨S16384x128x4, .i32⟩
  | 112 => ⟨S16384x128x4, .i32⟩
  | 113 => ⟨S16384x128x4, .i32⟩
  | 114 => ⟨S_, .i32⟩
  | 115 => ⟨S16384x128x4, .i32⟩
  | 116 => ⟨S16384x128x4, .i32⟩
  | 117 => ⟨S_, .i32⟩
  | 118 => ⟨S16384x128x4, .i32⟩
  | 119 => ⟨S16384x128x4, .i32⟩
  | 120 => ⟨S16384x128x4, .i32⟩
  | 121 => ⟨S16384x128x4, .i32⟩
  | 122 => ⟨S16384x128x4, .i32⟩
  | 123 => ⟨S16384x128x4, .i32⟩
  | 124 => ⟨S16384x128x4, .i32⟩
  | 125 => ⟨S16384x128x4, .i32⟩
  | 126 => ⟨S_, .i32⟩
  | 127 => ⟨S16384x128x4, .i32⟩
  | _ => ⟨S4x16384x128, .f32⟩

abbrev hbmTy0_2 (i : Nat) : BufTy := match i % 128 with
  | 0 => ⟨S16384x128x4, .i32⟩
  | 1 => ⟨S16384x128x4, .i32⟩
  | 2 => ⟨S_, .i32⟩
  | 3 => ⟨S16384x128x4, .i32⟩
  | 4 => ⟨S16384x128x4, .i32⟩
  | 5 => ⟨S_, .i32⟩
  | 6 => ⟨S16384x128x4, .i32⟩
  | 7 => ⟨S16384x128x4, .i32⟩
  | 8 => ⟨S16384x128x4, .i32⟩
  | 9 => ⟨S16384x128x4, .i32⟩
  | 10 => ⟨S16384x128x4, .i32⟩
  | 11 => ⟨S_, .i32⟩
  | 12 => ⟨S16384x128x4, .i32⟩
  | 13 => ⟨S16384x128x4, .i32⟩
  | 14 => ⟨S_, .i32⟩
  | 15 => ⟨S16384x128x4, .i32⟩
  | 16 => ⟨S16384x128x4, .i32⟩
  | 17 => ⟨S16384x128x4, .i32⟩
  | 18 => ⟨S16384x128x4, .i32⟩
  | 19 => ⟨S16384x128x4, .i32⟩
  | 20 => ⟨S_, .i32⟩
  | 21 => ⟨S16384x128x4, .i32⟩
  | 22 => ⟨S16384x128x4, .i32⟩
  | 23 => ⟨S_, .i32⟩
  | 24 => ⟨S16384x128x4, .i32⟩
  | 25 => ⟨S16384x128x4, .i32⟩
  | 26 => ⟨S16384x128x4, .i32⟩
  | 27 => ⟨S16384x128x4, .i32⟩
  | 28 => ⟨S16384x128x4, .i32⟩
  | 29 => ⟨S_, .i32⟩
  | 30 => ⟨S16384x128x4, .i32⟩
  | 31 => ⟨S16384x128x4, .i32⟩
  | 32 => ⟨S_, .i32⟩
  | 33 => ⟨S16384x128x4, .i32⟩
  | 34 => ⟨S16384x128x4, .i32⟩
  | 35 => ⟨S16384x128x4, .i32⟩
  | 36 => ⟨S16384x128x4, .i32⟩
  | 37 => ⟨S16384x128x4, .i32⟩
  | 38 => ⟨S16384x128x4, .i32⟩
  | 39 => ⟨S16384x128x4, .i32⟩
  | 40 => ⟨S16384x128x4, .i32⟩
  | 41 => ⟨S_, .i32⟩
  | 42 => ⟨S16384x128x4, .i32⟩
  | 43 => ⟨S16384x128x4, .i32⟩
  | 44 => ⟨S16384x128x4, .i32⟩
  | 45 => ⟨S_, .i32⟩
  | 46 => ⟨S16384x128x4, .i32⟩
  | 47 => ⟨S16384x128x4, .i32⟩
  | 48 => ⟨S_, .i32⟩
  | 49 => ⟨S16384x128x4, .i32⟩
  | 50 => ⟨S16384x128x4, .i32⟩
  | 51 => ⟨S16384x128x4, .f32⟩
  | 52 => ⟨S_, .f32⟩
  | 53 => ⟨S16384x128x4, .f32⟩
  | 54 => ⟨S16384x128x4, .f32⟩
  | 55 => ⟨S1x1x1, .f32⟩
  | 56 => ⟨S16384x128x4, .f32⟩
  | 57 => ⟨S16384x128x4, .f32⟩
  | 58 => ⟨S16384x128x4, .f32⟩
  | 59 => ⟨S16384x128x4, .f32⟩
  | 60 => ⟨S16384x128x4, .f32⟩
  | 61 => ⟨S16384x128x4, .f32⟩
  | 62 => ⟨S16384x128x4, .f32⟩
  | 63 => ⟨S16384x128x4, .f32⟩
  | 64 => ⟨S16384x128x4, .f32⟩
  | 65 => ⟨S16384x128x4, .f32⟩
  | 66 => ⟨S16384x128x4, .f32⟩
  | 67 => ⟨S16384x128x4, .i32⟩
  | 68 => ⟨S_, .f32⟩
  | 69 => ⟨S_, .i32⟩
  | 70 => ⟨S16384x128, .f32⟩
  | 71 => ⟨S16384x128, .i32⟩
  | 72 => ⟨S16384x128x1, .i32⟩
  | 73 => ⟨S1x1x4, .i32⟩
  | 74 => ⟨S16384x128x4, .i32⟩
  | 75 => ⟨S16384x128x4, .i32⟩
  | 76 => ⟨S16384x128x4, .i1⟩
  | 77 => ⟨S16384x128x4, .f32⟩
  | 78 => ⟨S16384x128x4, .f32⟩
  | 79 => ⟨S16384x128x4, .f32⟩
  | 80 => ⟨S_, .f32⟩
  | 81 => ⟨S16384x128, .f32⟩
  | 82 => ⟨S16384x4x128, .f32⟩
  | 83 => ⟨S1x4, .f32⟩
  | 84 => ⟨S16384x4, .f32⟩
  | 85 => ⟨S16384x4, .f32⟩
  | 86 => ⟨S16384x4, .f32⟩
  | 87 => ⟨S_, .f32⟩
  | 88 => ⟨S16384, .f32⟩
  | 89 => ⟨S16384x1, .f32⟩
  | 90 => ⟨S16384x4, .f32⟩
  | 91 => ⟨S16384x4, .f32⟩
  | 92 => ⟨S16384x4x1, .f32⟩
  | 93 => ⟨S16384x4x128, .f32⟩
  | 94 => ⟨S16384x4x128, .f32⟩
  | 95 => ⟨S_, .f32⟩
  | 96 => ⟨S16384x128, .f32⟩
  | 97 => ⟨S1x16384x128, .f32⟩
  | 98 => ⟨S1x16384x128, .f32⟩
  | 99 => ⟨S6x16384x128, .f32⟩
  | 100 => ⟨S_, .i32⟩
  | 101 => ⟨S_, .i32⟩
  | 102 => ⟨S_, .i32⟩
  | 103 => ⟨S_, .i32⟩
  | 104 => ⟨S1, .i32⟩
  | 105 => ⟨S_, .i32⟩
  | 106 => ⟨S_, .i32⟩
  | 107 => ⟨S_, .i32⟩
  | 108 => ⟨S1, .i32⟩
  | 109 => ⟨S2, .i32⟩
  | 110 => ⟨S6x16384x128, .f32⟩
  | 111 => ⟨S6x1x128, .f32⟩
  | 112 => ⟨S6x16384x128, .f32⟩
  | 113 => ⟨S6x16384x128, .f32⟩
  | 114 => ⟨S_, .f32⟩
  | 115 => ⟨S6x16384x128, .f32⟩
  | 116 => ⟨S6x16384x128, .f32⟩
  | 117 => ⟨S16384x6, .f32⟩
  | 118 => ⟨S_, .f32⟩
  | 119 => ⟨S16384, .f32⟩
  | 120 => ⟨S16384x1, .f32⟩
  | 121 => ⟨S16384x6, .f32⟩
  | 122 => ⟨S16384x6, .f32⟩
  | 123 => ⟨S16384x6, .f32⟩
  | 124 => ⟨S16384x1x6, .f32⟩
  | 125 => ⟨S16384x128x6, .f32⟩
  | 126 => ⟨S_, .f32⟩
  | 127 => ⟨S_, .f32⟩
  | _ => ⟨S4x16384x128, .f32⟩

abbrev hbmTy0_3 (i : Nat) : BufTy := match i % 128 with
  | 0 => ⟨S_, .f32⟩
  | 1 => ⟨S1x1x1, .f32⟩
  | 2 => ⟨S1x1x1, .f32⟩
  | 3 => ⟨S1, .i32⟩
  | 4 => ⟨S_, .i32⟩
  | 5 => ⟨S1, .i32⟩
  | 6 => ⟨S_, .i32⟩
  | 7 => ⟨S16384x128x6, .i64⟩
  | 8 => ⟨S16384x128x6, .i64⟩
  | 9 => ⟨S16384x128x6, .i64⟩
  | 10 => ⟨S_, .i64⟩
  | 11 => ⟨S16384x128x6, .i64⟩
  | 12 => ⟨S16384x128x6, .i64⟩
  | 13 => ⟨S_, .i64⟩
  | 14 => ⟨S16384x128x6, .i64⟩
  | 15 => ⟨S16384x128x6, .i64⟩
  | 16 => ⟨S_, .i64⟩
  | 17 => ⟨S16384x128x6, .i64⟩
  | 18 => ⟨S16384x128x6, .i64⟩
  | 19 => ⟨S16384x128x6, .i64⟩
  | 20 => ⟨S16384x128x6, .i64⟩
  | 21 => ⟨S_, .i64⟩
  | 22 => ⟨S16384x128x6, .i64⟩
  | 23 => ⟨S16384x128x6, .i64⟩
  | 24 => ⟨S16384x128x6, .i32⟩
  | 25 => ⟨S16384x128x6, .i32⟩
  | 26 => ⟨S_, .i32⟩
  | 27 => ⟨S_, .i32⟩
  | 28 => ⟨S_, .i32⟩
  | 29 => ⟨S16384x128x6, .i32⟩
  | 30 => ⟨S16384x128x6, .i32⟩
  | 31 => ⟨S16384x128x6, .i32⟩
  | 32 => ⟨S16384x128x6, .i32⟩
  | 33 => ⟨S16384x128x6, .i32⟩
  | 34 => ⟨S_, .i32⟩
  | 35 => ⟨S16384x128x6, .i32⟩
  | 36 => ⟨S16384x128x6, .i32⟩
  | 37 => ⟨S_, .i32⟩
  | 38 => ⟨S16384x128x6, .i32⟩
  | 39 => ⟨S16384x128x6, .i32⟩
  | 40 => ⟨S16384x128x6, .i32⟩
  | 41 => ⟨S16384x128x6, .i32⟩
  | 42 => ⟨S16384x128x6, .i32⟩
  | 43 => ⟨S_, .i32⟩
  | 44 => ⟨S16384x128x6, .i32⟩
  | 45 => ⟨S16384x128x6, .i32⟩
  | 46 => ⟨S_, .i32⟩
  | 47 => ⟨S16384x128x6, .i32⟩
  | 48 => ⟨S16384x128x6, .i32⟩
  | 49 => ⟨S16384x128x6, .i32⟩
  | 50 => ⟨S16384x128x6, .i32⟩
  | 51 => ⟨S16384x128x6, .i32⟩
  | 52 => ⟨S_, .i32⟩
  | 53 => ⟨S16384x128x6, .i32⟩
  | 54 => ⟨S16384x128x6, .i32⟩
  | 55 => ⟨S_, .i32⟩
  | 56 => ⟨S16384x128x6, .i32⟩
  | 57 => ⟨S16384x128x6, .i32⟩
  | 58 => ⟨S16384x128x6, .i32⟩
  | 59 => ⟨S16384x128x6, .i32⟩
  | 60 => ⟨S16384x128x6, .i32⟩
  | 61 => ⟨S_, .i32⟩
  | 62 => ⟨S16384x128x6, .i32⟩
  | 63 => ⟨S16384x128x6, .i32⟩
  | 64 => ⟨S_, .i32⟩
  | 65 => ⟨S16384x128x6, .i32⟩
  | 66 => ⟨S16384x128x6, .i32⟩
  | 67 => ⟨S16384x128x6, .i32⟩
  | 68 => ⟨S16384x128x6, .i32⟩
  | 69 => ⟨S16384x128x6, .i32⟩
  | 70 => ⟨S16384x128x6, .i32⟩
  | 71 => ⟨S16384x128x6, .i32⟩
  | 72 => ⟨S16384x128x6, .i32⟩
  | 73 => ⟨S_, .i32⟩
  | 74 => ⟨S16384x128x6, .i32⟩
  | 75 => ⟨S16384x128x6, .i32⟩
  | 76 => ⟨S16384x128x6, .i32⟩
  | 77 => ⟨S_, .i32⟩
  | 78 => ⟨S16384x128x6, .i32⟩
  | 79 => ⟨S16384x128x6, .i32⟩
  | 80 => ⟨S_, .i32⟩
  | 81 => ⟨S16384x128x6, .i32⟩
  | 82 => ⟨S16384x128x6, .i32⟩
  | 83 => ⟨S16384x128x6, .i32⟩
  | 84 => ⟨S16384x128x6, .i32⟩
  | 85 => ⟨S16384x128x6, .i32⟩
  | 86 => ⟨S_, .i32⟩
  | 87 => ⟨S16384x128x6, .i32⟩
  | 88 => ⟨S16384x128x6, .i32⟩
  | 89 => ⟨S_, .i32⟩
  | 90 => ⟨S16384x128x6, .i32⟩
  | 91 => ⟨S16384x128x6, .i32⟩
  | 92 => ⟨S16384x128x6, .i32⟩
  | 93 => ⟨S16384x128x6, .i32⟩
  | 94 => ⟨S16384x128x6, .i32⟩
  | 95 => ⟨S_, .i32⟩
  | 96 => ⟨S16384x128x6, .i32⟩
  | 97 => ⟨S16384x128x6, .i32⟩
  | 98 => ⟨S_, .i32⟩
  | 99 => ⟨S16384x128x6, .i32⟩
  | 100 => ⟨S16384x128x6, .i32⟩
  | 101 => ⟨S16384x128x6, .i32⟩
  | 102 => ⟨S16384x128x6, .i32⟩
  | 103 => ⟨S16384x128x6, .i32⟩
  | 104 => ⟨S_, .i32⟩
  | 105 => ⟨S16384x128x6, .i32⟩
  | 106 => ⟨S16384x128x6, .i32⟩
  | 107 => ⟨S_, .i32⟩
  | 108 => ⟨S16384x128x6, .i32⟩
  | 109 => ⟨S16384x128x6, .i32⟩
  | 110 => ⟨S16384x128x6, .i32⟩
  | 111 => ⟨S16384x128x6, .i32⟩
  | 112 => ⟨S16384x128x6, .i32⟩
  | 113 => ⟨S16384x128x6, .i32⟩
  | 114 => ⟨S16384x128x6, .i32⟩
  | 115 => ⟨S16384x128x6, .i32⟩
  | 116 => ⟨S_, .i32⟩
  | 117 => ⟨S16384x128x6, .i32⟩
  | 118 => ⟨S16384x128x6, .i32⟩
  | 119 => ⟨S16384x128x6, .i32⟩
  | 120 => ⟨S_, .i32⟩
  | 121 => ⟨S16384x128x6, .i32⟩
  | 122 => ⟨S16384x128x6, .i32⟩
  | 123 => ⟨S_, .i32⟩
  | 124 => ⟨S16384x128x6, .i32⟩
  | 125 => ⟨S16384x128x6, .i32⟩
  | 126 => ⟨S16384x128x6, .i32⟩
  | 127 => ⟨S16384x128x6, .i32⟩
  | _ => ⟨S4x16384x128, .f32⟩

abbrev hbmTy0_4 (i : Nat) : BufTy := match i % 128 with
  | 0 => ⟨S16384x128x6, .i32⟩
  | 1 => ⟨S_, .i32⟩
  | 2 => ⟨S16384x128x6, .i32⟩
  | 3 => ⟨S16384x128x6, .i32⟩
  | 4 => ⟨S_, .i32⟩
  | 5 => ⟨S16384x128x6, .i32⟩
  | 6 => ⟨S16384x128x6, .i32⟩
  | 7 => ⟨S16384x128x6, .i32⟩
  | 8 => ⟨S16384x128x6, .i32⟩
  | 9 => ⟨S16384x128x6, .i32⟩
  | 10 => ⟨S_, .i32⟩
  | 11 => ⟨S16384x128x6, .i32⟩
  | 12 => ⟨S16384x128x6, .i32⟩
  | 13 => ⟨S_, .i32⟩
  | 14 => ⟨S16384x128x6, .i32⟩
  | 15 => ⟨S16384x128x6, .i32⟩
  | 16 => ⟨S16384x128x6, .i32⟩
  | 17 => ⟨S16384x128x6, .i32⟩
  | 18 => ⟨S16384x128x6, .i32⟩
  | 19 => ⟨S_, .i32⟩
  | 20 => ⟨S16384x128x6, .i32⟩
  | 21 => ⟨S16384x128x6, .i32⟩
  | 22 => ⟨S_, .i32⟩
  | 23 => ⟨S16384x128x6, .i32⟩
  | 24 => ⟨S16384x128x6, .i32⟩
  | 25 => ⟨S16384x128x6, .i32⟩
  | 26 => ⟨S16384x128x6, .i32⟩
  | 27 => ⟨S16384x128x6, .i32⟩
  | 28 => ⟨S16384x128x6, .i32⟩
  | 29 => ⟨S16384x128x6, .i32⟩
  | 30 => ⟨S16384x128x6, .i32⟩
  | 31 => ⟨S_, .i32⟩
  | 32 => ⟨S16384x128x6, .i32⟩
  | 33 => ⟨S16384x128x6, .i32⟩
  | 34 => ⟨S16384x128x6, .i32⟩
  | 35 => ⟨S_, .i32⟩
  | 36 => ⟨S16384x128x6, .i32⟩
  | 37 => ⟨S16384x128x6, .i32⟩
  | 38 => ⟨S_, .i32⟩
  | 39 => ⟨S16384x128x6, .i32⟩
  | 40 => ⟨S16384x128x6, .i32⟩
  | 41 => ⟨S16384x128x6, .i32⟩
  | 42 => ⟨S16384x128x6, .i32⟩
  | 43 => ⟨S16384x128x6, .i32⟩
  | 44 => ⟨S_, .i32⟩
  | 45 => ⟨S16384x128x6, .i32⟩
  | 46 => ⟨S16384x128x6, .i32⟩
  | 47 => ⟨S_, .i32⟩
  | 48 => ⟨S16384x128x6, .i32⟩
  | 49 => ⟨S16384x128x6, .i32⟩
  | 50 => ⟨S16384x128x6, .i32⟩
  | 51 => ⟨S16384x128x6, .i32⟩
  | 52 => ⟨S16384x128x6, .i32⟩
  | 53 => ⟨S_, .i32⟩
  | 54 => ⟨S16384x128x6, .i32⟩
  | 55 => ⟨S16384x128x6, .i32⟩
  | 56 => ⟨S_, .i32⟩
  | 57 => ⟨S16384x128x6, .i32⟩
  | 58 => ⟨S16384x128x6, .i32⟩
  | 59 => ⟨S16384x128x6, .i32⟩
  | 60 => ⟨S16384x128x6, .i32⟩
  | 61 => ⟨S16384x128x6, .i32⟩
  | 62 => ⟨S_, .i32⟩
  | 63 => ⟨S16384x128x6, .i32⟩
  | 64 => ⟨S16384x128x6, .i32⟩
  | 65 => ⟨S_, .i32⟩
  | 66 => ⟨S16384x128x6, .i32⟩
  | 67 => ⟨S16384x128x6, .i32⟩
  | 68 => ⟨S16384x128x6, .i32⟩
  | 69 => ⟨S16384x128x6, .i32⟩
  | 70 => ⟨S16384x128x6, .i32⟩
  | 71 => ⟨S16384x128x6, .i32⟩
  | 72 => ⟨S16384x128x6, .i32⟩
  | 73 => ⟨S16384x128x6, .i32⟩
  | 74 => ⟨S_, .i32⟩
  | 75 => ⟨S16384x128x6, .i32⟩
  | 76 => ⟨S16384x128x6, .i32⟩
  | 77 => ⟨S16384x128x6, .i32⟩
  | 78 => ⟨S_, .i32⟩
  | 79 => ⟨S16384x128x6, .i32⟩
  | 80 => ⟨S16384x128x6, .i32⟩
  | 81 => ⟨S_, .i32⟩
  | 82 => ⟨S16384x128x6, .i32⟩
  | 83 => ⟨S16384x128x6, .i32⟩
  | 84 => ⟨S16384x128x6, .i32⟩
  | 85 => ⟨S16384x128x6, .i32⟩
  | 86 => ⟨S16384x128x6, .i32⟩
  | 87 => ⟨S_, .i32⟩
  | 88 => ⟨S16384x128x6, .i32⟩
  | 89 => ⟨S16384x128x6, .i32⟩
  | 90 => ⟨S_, .i32⟩
  | 91 => ⟨S16384x128x6, .i32⟩
  | 92 => ⟨S16384x128x6, .i32⟩
  | 93 => ⟨S16384x128x6, .i32⟩
  | 94 => ⟨S16384x128x6, .i32⟩
  | 95 => ⟨S16384x128x6, .i32⟩
  | 96 => ⟨S_, .i32⟩
  | 97 => ⟨S16384x128x6, .i32⟩
  | 98 => ⟨S16384x128x6, .i32⟩
  | 99 => ⟨S_, .i32⟩
  | 100 => ⟨S16384x128x6, .i32⟩
  | 101 => ⟨S16384x128x6, .i32⟩
  | 102 => ⟨S16384x128x6, .i32⟩
  | 103 => ⟨S16384x128x6, .i32⟩
  | 104 => ⟨S16384x128x6, .i32⟩
  | 105 => ⟨S_, .i32⟩
  | 106 => ⟨S16384x128x6, .i32⟩
  | 107 => ⟨S16384x128x6, .i32⟩
  | 108 => ⟨S_, .i32⟩
  | 109 => ⟨S16384x128x6, .i32⟩
  | 110 => ⟨S16384x128x6, .i32⟩
  | 111 => ⟨S16384x128x6, .i32⟩
  | 112 => ⟨S16384x128x6, .i32⟩
  | 113 => ⟨S16384x128x6, .i32⟩
  | 114 => ⟨S16384x128x6, .i32⟩
  | 115 => ⟨S16384x128x6, .i32⟩
  | 116 => ⟨S16384x128x6, .i32⟩
  | 117 => ⟨S_, .i32⟩
  | 118 => ⟨S16384x128x6, .i32⟩
  | 119 => ⟨S16384x128x6, .i32⟩
  | 120 => ⟨S16384x128x6, .i32⟩
  | 121 => ⟨S_, .i32⟩
  | 122 => ⟨S16384x128x6, .i32⟩
  | 123 => ⟨S16384x128x6, .i32⟩
  | 124 => ⟨S_, .i32⟩
  | 125 => ⟨S16384x128x6, .i32⟩
  | 126 => ⟨S16384x128x6, .i32⟩
  | 127 => ⟨S16384x128x6, .f32⟩
  | _ => ⟨S4x16384x128, .f32⟩

abbrev hbmTy0_5 (i : Nat) : BufTy := match i % 128 with
  | 0 => ⟨S_, .f32⟩
  | 1 => ⟨S16384x128x6, .f32⟩
  | 2 => ⟨S16384x128x6, .f32⟩
  | 3 => ⟨S1x1x1, .f32⟩
  | 4 => ⟨S16384x128x6, .f32⟩
  | 5 => ⟨S16384x128x6, .f32⟩
  | 6 => ⟨S16384x128x6, .f32⟩
  | 7 => ⟨S16384x128x6, .f32⟩
  | 8 => ⟨S16384x128x6, .f32⟩
  | 9 => ⟨S16384x128x6, .f32⟩
  | 10 => ⟨S16384x128x6, .f32⟩
  | 11 => ⟨S16384x128x6, .f32⟩
  | 12 => ⟨S16384x128x6, .f32⟩
  | 13 => ⟨S16384x128x6, .f32⟩
  | 14 => ⟨S16384x128x6, .f32⟩
  | 15 => ⟨S16384x128x6, .i32⟩
  | 16 => ⟨S_, .f32⟩
  | 17 => ⟨S_, .i32⟩
  | 18 => ⟨S16384x128, .f32⟩
  | 19 => ⟨S16384x128, .i32⟩
  | 20 => ⟨S16384x128x1, .i32⟩
  | 21 => ⟨S1x1x6, .i32⟩
  | 22 => ⟨S16384x128x6, .i32⟩
  | 23 => ⟨S16384x128x6, .i32⟩
  | 24 => ⟨S16384x128x6, .i1⟩
  | 25 => ⟨S16384x128x6, .f32⟩
  | 26 => ⟨S16384x128x6, .f32⟩
  | 27 => ⟨S16384x128x6, .f32⟩
  | 28 => ⟨S_, .f32⟩
  | 29 => ⟨S16384x128, .f32⟩
  | _ => ⟨S4x16384x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x16384x128, .f32⟩

abbrev bufTy : (tb : Table) → Fin (tcTables nBuf tb) → BufTy
  | .hbm, ⟨i, _⟩ => hbmTy i
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call0_cst : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_cst_0 : Ref sig .tc := ⟨.hbm, 51, rfl⟩
abbrev main_call1_call0_v0 : Ref sig .tc := ⟨.hbm, 52, rfl⟩
abbrev main_call1_call0_v1 : Ref sig .tc := ⟨.hbm, 53, rfl⟩
abbrev main_call1_call0_v2 : Ref sig .tc := ⟨.hbm, 54, rfl⟩
abbrev main_call1_call0_v3 : Ref sig .tc := ⟨.hbm, 55, rfl⟩
abbrev main_call1_call0_v4 : Ref sig .tc := ⟨.hbm, 56, rfl⟩
abbrev main_call1_call0_v5 : Ref sig .tc := ⟨.hbm, 57, rfl⟩
abbrev main_call1_call0_v6 : Ref sig .tc := ⟨.hbm, 58, rfl⟩
abbrev main_call1_call0_v7 : Ref sig .tc := ⟨.hbm, 59, rfl⟩
abbrev main_call1_call0_v8 : Ref sig .tc := ⟨.hbm, 60, rfl⟩
abbrev main_call1_call0_v9 : Ref sig .tc := ⟨.hbm, 61, rfl⟩
abbrev main_call1_call0_c : Ref sig .tc := ⟨.hbm, 62, rfl⟩
abbrev main_call1_call0_v10 : Ref sig .tc := ⟨.hbm, 63, rfl⟩
abbrev main_call1_call0_v11 : Ref sig .tc := ⟨.hbm, 64, rfl⟩
abbrev main_call1_call0_c_0 : Ref sig .tc := ⟨.hbm, 65, rfl⟩
abbrev main_call1_call0_v12 : Ref sig .tc := ⟨.hbm, 66, rfl⟩
abbrev main_call1_call0_v13 : Ref sig .tc := ⟨.hbm, 67, rfl⟩
abbrev main_call1_call0_c_1 : Ref sig .tc := ⟨.hbm, 68, rfl⟩
abbrev main_call1_call0_v14 : Ref sig .tc := ⟨.hbm, 69, rfl⟩
abbrev main_call1_call0_v15 : Ref sig .tc := ⟨.hbm, 70, rfl⟩
abbrev main_call1_call0_v16 : Ref sig .tc := ⟨.hbm, 71, rfl⟩
abbrev main_call1_call0_v17 : Ref sig .tc := ⟨.hbm, 72, rfl⟩
abbrev main_call1_call0_c_2 : Ref sig .tc := ⟨.hbm, 73, rfl⟩
abbrev main_call1_call0_v18 : Ref sig .tc := ⟨.hbm, 74, rfl⟩
abbrev main_call1_call0_v19 : Ref sig .tc := ⟨.hbm, 75, rfl⟩
abbrev main_call1_call0_v20 : Ref sig .tc := ⟨.hbm, 76, rfl⟩
abbrev main_call1_call0_v21 : Ref sig .tc := ⟨.hbm, 77, rfl⟩
abbrev main_call1_call0_call0_v0 : Ref sig .tc := ⟨.hbm, 78, rfl⟩
abbrev main_call1_call0_call0_c : Ref sig .tc := ⟨.hbm, 79, rfl⟩
abbrev main_call1_call0_call0_v1 : Ref sig .tc := ⟨.hbm, 80, rfl⟩
abbrev main_call1_call0_call0_v2 : Ref sig .tc := ⟨.hbm, 81, rfl⟩
abbrev main_call1_call0_call0_v3 : Ref sig .tc := ⟨.hbm, 82, rfl⟩
abbrev main_call1_call0_call0_v4 : Ref sig .tc := ⟨.hbm, 83, rfl⟩
abbrev main_call1_call0_call0_v5 : Ref sig .tc := ⟨.hbm, 84, rfl⟩
abbrev main_call1_call0_call0_v6 : Ref sig .tc := ⟨.hbm, 85, rfl⟩
abbrev main_call1_call0_call0_c_0 : Ref sig .tc := ⟨.hbm, 86, rfl⟩
abbrev main_call1_call0_call0_v7 : Ref sig .tc := ⟨.hbm, 87, rfl⟩
abbrev main_call1_call0_call0_v8 : Ref sig .tc := ⟨.hbm, 88, rfl⟩
abbrev main_call1_call0_call0_c_1 : Ref sig .tc := ⟨.hbm, 89, rfl⟩
abbrev main_call1_call0_call0_v9 : Ref sig .tc := ⟨.hbm, 90, rfl⟩
abbrev main_call1_call0_call0_v10 : Ref sig .tc := ⟨.hbm, 91, rfl⟩
abbrev main_call1_call0_call0_v11 : Ref sig .tc := ⟨.hbm, 92, rfl⟩
abbrev main_call1_call0_call0_v12 : Ref sig .tc := ⟨.hbm, 93, rfl⟩
abbrev main_call1_call0_call0_v13 : Ref sig .tc := ⟨.hbm, 94, rfl⟩
abbrev main_call1_call0_call0_c_2 : Ref sig .tc := ⟨.hbm, 95, rfl⟩
abbrev main_call1_call0_call0_v14 : Ref sig .tc := ⟨.hbm, 96, rfl⟩
abbrev main_call1_call0_call0_v15 : Ref sig .tc := ⟨.hbm, 97, rfl⟩
abbrev main_call1_call0_call0_c_3 : Ref sig .tc := ⟨.hbm, 98, rfl⟩
abbrev main_call1_call0_call0_v16 : Ref sig .tc := ⟨.hbm, 99, rfl⟩
abbrev main_call1_call0_call0_v17 : Ref sig .tc := ⟨.hbm, 100, rfl⟩
abbrev main_call1_call0_call0_v18 : Ref sig .tc := ⟨.hbm, 101, rfl⟩
abbrev main_call1_call0_call0_v19 : Ref sig .tc := ⟨.hbm, 102, rfl⟩
abbrev main_call1_call0_call0_v20 : Ref sig .tc := ⟨.hbm, 103, rfl⟩
abbrev main_call1_call0_call0_c_4 : Ref sig .tc := ⟨.hbm, 104, rfl⟩
abbrev main_call1_call0_call0_v21 : Ref sig .tc := ⟨.hbm, 105, rfl⟩
abbrev main_call1_call0_call0_v22 : Ref sig .tc := ⟨.hbm, 106, rfl⟩
abbrev main_call1_call0_call0_c_5 : Ref sig .tc := ⟨.hbm, 107, rfl⟩
abbrev main_call1_call0_call0_v23 : Ref sig .tc := ⟨.hbm, 108, rfl⟩
abbrev main_call1_call0_call0_v24 : Ref sig .tc := ⟨.hbm, 109, rfl⟩
abbrev main_call1_call0_call0_v25 : Ref sig .tc := ⟨.hbm, 110, rfl⟩
abbrev main_call1_call0_call0_v26 : Ref sig .tc := ⟨.hbm, 111, rfl⟩
abbrev main_call1_call0_call0_v27 : Ref sig .tc := ⟨.hbm, 112, rfl⟩
abbrev main_call1_call0_call0_c_6 : Ref sig .tc := ⟨.hbm, 113, rfl⟩
abbrev main_call1_call0_call0_v28 : Ref sig .tc := ⟨.hbm, 114, rfl⟩
abbrev main_call1_call0_call0_v29 : Ref sig .tc := ⟨.hbm, 115, rfl⟩
abbrev main_call1_call0_call0_c_7 : Ref sig .tc := ⟨.hbm, 116, rfl⟩
abbrev main_call1_call0_call0_v30 : Ref sig .tc := ⟨.hbm, 117, rfl⟩
abbrev main_call1_call0_call0_v31 : Ref sig .tc := ⟨.hbm, 118, rfl⟩
abbrev main_call1_call0_call0_v32 : Ref sig .tc := ⟨.hbm, 119, rfl⟩
abbrev main_call1_call0_call0_v33 : Ref sig .tc := ⟨.hbm, 120, rfl⟩
abbrev main_call1_call0_call0_v34 : Ref sig .tc := ⟨.hbm, 121, rfl⟩
abbrev main_call1_call0_call0_v35 : Ref sig .tc := ⟨.hbm, 122, rfl⟩
abbrev main_call1_call0_call0_v36 : Ref sig .tc := ⟨.hbm, 123, rfl⟩
abbrev main_call1_call0_call0_v37 : Ref sig .tc := ⟨.hbm, 124, rfl⟩
abbrev main_call1_call0_call0_c_8 : Ref sig .tc := ⟨.hbm, 125, rfl⟩
abbrev main_call1_call0_call0_v38 : Ref sig .tc := ⟨.hbm, 126, rfl⟩
abbrev main_call1_call0_call0_v39 : Ref sig .tc := ⟨.hbm, 127, rfl⟩
abbrev main_call1_call0_call0_v40 : Ref sig .tc := ⟨.hbm, 128, rfl⟩
abbrev main_call1_call0_call0_c_9 : Ref sig .tc := ⟨.hbm, 129, rfl⟩
abbrev main_call1_call0_call0_v41 : Ref sig .tc := ⟨.hbm, 130, rfl⟩
abbrev main_call1_call0_call0_v42 : Ref sig .tc := ⟨.hbm, 131, rfl⟩
abbrev main_call1_call0_call0_c_10 : Ref sig .tc := ⟨.hbm, 132, rfl⟩
abbrev main_call1_call0_call0_v43 : Ref sig .tc := ⟨.hbm, 133, rfl⟩
abbrev main_call1_call0_call0_v44 : Ref sig .tc := ⟨.hbm, 134, rfl⟩
abbrev main_call1_call0_call0_v45 : Ref sig .tc := ⟨.hbm, 135, rfl⟩
abbrev main_call1_call0_call0_v46 : Ref sig .tc := ⟨.hbm, 136, rfl⟩
abbrev main_call1_call0_call0_v47 : Ref sig .tc := ⟨.hbm, 137, rfl⟩
abbrev main_call1_call0_call0_c_11 : Ref sig .tc := ⟨.hbm, 138, rfl⟩
abbrev main_call1_call0_call0_v48 : Ref sig .tc := ⟨.hbm, 139, rfl⟩
abbrev main_call1_call0_call0_v49 : Ref sig .tc := ⟨.hbm, 140, rfl⟩
abbrev main_call1_call0_call0_c_12 : Ref sig .tc := ⟨.hbm, 141, rfl⟩
abbrev main_call1_call0_call0_v50 : Ref sig .tc := ⟨.hbm, 142, rfl⟩
abbrev main_call1_call0_call0_v51 : Ref sig .tc := ⟨.hbm, 143, rfl⟩
abbrev main_call1_call0_call0_v52 : Ref sig .tc := ⟨.hbm, 144, rfl⟩
abbrev main_call1_call0_call0_v53 : Ref sig .tc := ⟨.hbm, 145, rfl⟩
abbrev main_call1_call0_call0_v54 : Ref sig .tc := ⟨.hbm, 146, rfl⟩
abbrev main_call1_call0_call0_c_13 : Ref sig .tc := ⟨.hbm, 147, rfl⟩
abbrev main_call1_call0_call0_v55 : Ref sig .tc := ⟨.hbm, 148, rfl⟩
abbrev main_call1_call0_call0_v56 : Ref sig .tc := ⟨.hbm, 149, rfl⟩
abbrev main_call1_call0_call0_c_14 : Ref sig .tc := ⟨.hbm, 150, rfl⟩
abbrev main_call1_call0_call0_v57 : Ref sig .tc := ⟨.hbm, 151, rfl⟩
abbrev main_call1_call0_call0_v58 : Ref sig .tc := ⟨.hbm, 152, rfl⟩
abbrev main_call1_call0_call0_v59 : Ref sig .tc := ⟨.hbm, 153, rfl⟩
abbrev main_call1_call0_call0_v60 : Ref sig .tc := ⟨.hbm, 154, rfl⟩
abbrev main_call1_call0_call0_v61 : Ref sig .tc := ⟨.hbm, 155, rfl⟩
abbrev main_call1_call0_call0_c_15 : Ref sig .tc := ⟨.hbm, 156, rfl⟩
abbrev main_call1_call0_call0_v62 : Ref sig .tc := ⟨.hbm, 157, rfl⟩
abbrev main_call1_call0_call0_v63 : Ref sig .tc := ⟨.hbm, 158, rfl⟩
abbrev main_call1_call0_call0_c_16 : Ref sig .tc := ⟨.hbm, 159, rfl⟩
abbrev main_call1_call0_call0_v64 : Ref sig .tc := ⟨.hbm, 160, rfl⟩
abbrev main_call1_call0_call0_v65 : Ref sig .tc := ⟨.hbm, 161, rfl⟩
abbrev main_call1_call0_call0_v66 : Ref sig .tc := ⟨.hbm, 162, rfl⟩
abbrev main_call1_call0_call0_v67 : Ref sig .tc := ⟨.hbm, 163, rfl⟩
abbrev main_call1_call0_call0_v68 : Ref sig .tc := ⟨.hbm, 164, rfl⟩
abbrev main_call1_call0_call0_v69 : Ref sig .tc := ⟨.hbm, 165, rfl⟩
abbrev main_call1_call0_call0_v70 : Ref sig .tc := ⟨.hbm, 166, rfl⟩
abbrev main_call1_call0_call0_v71 : Ref sig .tc := ⟨.hbm, 167, rfl⟩
abbrev main_call1_call0_call0_c_17 : Ref sig .tc := ⟨.hbm, 168, rfl⟩
abbrev main_call1_call0_call0_v72 : Ref sig .tc := ⟨.hbm, 169, rfl⟩
abbrev main_call1_call0_call0_v73 : Ref sig .tc := ⟨.hbm, 170, rfl⟩
abbrev main_call1_call0_call0_v74 : Ref sig .tc := ⟨.hbm, 171, rfl⟩
abbrev main_call1_call0_call0_c_18 : Ref sig .tc := ⟨.hbm, 172, rfl⟩
abbrev main_call1_call0_call0_v75 : Ref sig .tc := ⟨.hbm, 173, rfl⟩
abbrev main_call1_call0_call0_v76 : Ref sig .tc := ⟨.hbm, 174, rfl⟩
abbrev main_call1_call0_call0_c_19 : Ref sig .tc := ⟨.hbm, 175, rfl⟩
abbrev main_call1_call0_call0_v77 : Ref sig .tc := ⟨.hbm, 176, rfl⟩
abbrev main_call1_call0_call0_v78 : Ref sig .tc := ⟨.hbm, 177, rfl⟩
abbrev main_call1_call0_call0_v79 : Ref sig .tc := ⟨.hbm, 178, rfl⟩
abbrev main_call1_call0_call0_v80 : Ref sig .tc := ⟨.hbm, 179, rfl⟩
abbrev main_call1_call0_call0_v81 : Ref sig .tc := ⟨.hbm, 180, rfl⟩
abbrev main_call1_call0_call0_c_20 : Ref sig .tc := ⟨.hbm, 181, rfl⟩
abbrev main_call1_call0_call0_v82 : Ref sig .tc := ⟨.hbm, 182, rfl⟩
abbrev main_call1_call0_call0_v83 : Ref sig .tc := ⟨.hbm, 183, rfl⟩
abbrev main_call1_call0_call0_c_21 : Ref sig .tc := ⟨.hbm, 184, rfl⟩
abbrev main_call1_call0_call0_v84 : Ref sig .tc := ⟨.hbm, 185, rfl⟩
abbrev main_call1_call0_call0_v85 : Ref sig .tc := ⟨.hbm, 186, rfl⟩
abbrev main_call1_call0_call0_v86 : Ref sig .tc := ⟨.hbm, 187, rfl⟩
abbrev main_call1_call0_call0_v87 : Ref sig .tc := ⟨.hbm, 188, rfl⟩
abbrev main_call1_call0_call0_v88 : Ref sig .tc := ⟨.hbm, 189, rfl⟩
abbrev main_call1_call0_call0_c_22 : Ref sig .tc := ⟨.hbm, 190, rfl⟩
abbrev main_call1_call0_call0_v89 : Ref sig .tc := ⟨.hbm, 191, rfl⟩
abbrev main_call1_call0_call0_v90 : Ref sig .tc := ⟨.hbm, 192, rfl⟩
abbrev main_call1_call0_call0_c_23 : Ref sig .tc := ⟨.hbm, 193, rfl⟩
abbrev main_call1_call0_call0_v91 : Ref sig .tc := ⟨.hbm, 194, rfl⟩
abbrev main_call1_call0_call0_v92 : Ref sig .tc := ⟨.hbm, 195, rfl⟩
abbrev main_call1_call0_call0_v93 : Ref sig .tc := ⟨.hbm, 196, rfl⟩
abbrev main_call1_call0_call0_v94 : Ref sig .tc := ⟨.hbm, 197, rfl⟩
abbrev main_call1_call0_call0_v95 : Ref sig .tc := ⟨.hbm, 198, rfl⟩
abbrev main_call1_call0_call0_c_24 : Ref sig .tc := ⟨.hbm, 199, rfl⟩
abbrev main_call1_call0_call0_v96 : Ref sig .tc := ⟨.hbm, 200, rfl⟩
abbrev main_call1_call0_call0_v97 : Ref sig .tc := ⟨.hbm, 201, rfl⟩
abbrev main_call1_call0_call0_c_25 : Ref sig .tc := ⟨.hbm, 202, rfl⟩
abbrev main_call1_call0_call0_v98 : Ref sig .tc := ⟨.hbm, 203, rfl⟩
abbrev main_call1_call0_call0_v99 : Ref sig .tc := ⟨.hbm, 204, rfl⟩
abbrev main_call1_call0_call0_v100 : Ref sig .tc := ⟨.hbm, 205, rfl⟩
abbrev main_call1_call0_call0_v101 : Ref sig .tc := ⟨.hbm, 206, rfl⟩
abbrev main_call1_call0_call0_v102 : Ref sig .tc := ⟨.hbm, 207, rfl⟩
abbrev main_call1_call0_call0_v103 : Ref sig .tc := ⟨.hbm, 208, rfl⟩
abbrev main_call1_call0_call0_v104 : Ref sig .tc := ⟨.hbm, 209, rfl⟩
abbrev main_call1_call0_call0_v105 : Ref sig .tc := ⟨.hbm, 210, rfl⟩
abbrev main_call1_call0_call0_c_26 : Ref sig .tc := ⟨.hbm, 211, rfl⟩
abbrev main_call1_call0_call0_v106 : Ref sig .tc := ⟨.hbm, 212, rfl⟩
abbrev main_call1_call0_call0_v107 : Ref sig .tc := ⟨.hbm, 213, rfl⟩
abbrev main_call1_call0_call0_v108 : Ref sig .tc := ⟨.hbm, 214, rfl⟩
abbrev main_call1_call0_call0_c_27 : Ref sig .tc := ⟨.hbm, 215, rfl⟩
abbrev main_call1_call0_call0_v109 : Ref sig .tc := ⟨.hbm, 216, rfl⟩
abbrev main_call1_call0_call0_v110 : Ref sig .tc := ⟨.hbm, 217, rfl⟩
abbrev main_call1_call0_call0_c_28 : Ref sig .tc := ⟨.hbm, 218, rfl⟩
abbrev main_call1_call0_call0_v111 : Ref sig .tc := ⟨.hbm, 219, rfl⟩
abbrev main_call1_call0_call0_v112 : Ref sig .tc := ⟨.hbm, 220, rfl⟩
abbrev main_call1_call0_call0_v113 : Ref sig .tc := ⟨.hbm, 221, rfl⟩
abbrev main_call1_call0_call0_v114 : Ref sig .tc := ⟨.hbm, 222, rfl⟩
abbrev main_call1_call0_call0_v115 : Ref sig .tc := ⟨.hbm, 223, rfl⟩
abbrev main_call1_call0_call0_c_29 : Ref sig .tc := ⟨.hbm, 224, rfl⟩
abbrev main_call1_call0_call0_v116 : Ref sig .tc := ⟨.hbm, 225, rfl⟩
abbrev main_call1_call0_call0_v117 : Ref sig .tc := ⟨.hbm, 226, rfl⟩
abbrev main_call1_call0_call0_c_30 : Ref sig .tc := ⟨.hbm, 227, rfl⟩
abbrev main_call1_call0_call0_v118 : Ref sig .tc := ⟨.hbm, 228, rfl⟩
abbrev main_call1_call0_call0_v119 : Ref sig .tc := ⟨.hbm, 229, rfl⟩
abbrev main_call1_call0_call0_v120 : Ref sig .tc := ⟨.hbm, 230, rfl⟩
abbrev main_call1_call0_call0_v121 : Ref sig .tc := ⟨.hbm, 231, rfl⟩
abbrev main_call1_call0_call0_v122 : Ref sig .tc := ⟨.hbm, 232, rfl⟩
abbrev main_call1_call0_call0_c_31 : Ref sig .tc := ⟨.hbm, 233, rfl⟩
abbrev main_call1_call0_call0_v123 : Ref sig .tc := ⟨.hbm, 234, rfl⟩
abbrev main_call1_call0_call0_v124 : Ref sig .tc := ⟨.hbm, 235, rfl⟩
abbrev main_call1_call0_call0_c_32 : Ref sig .tc := ⟨.hbm, 236, rfl⟩
abbrev main_call1_call0_call0_v125 : Ref sig .tc := ⟨.hbm, 237, rfl⟩
abbrev main_call1_call0_call0_v126 : Ref sig .tc := ⟨.hbm, 238, rfl⟩
abbrev main_call1_call0_call0_v127 : Ref sig .tc := ⟨.hbm, 239, rfl⟩
abbrev main_call1_call0_call0_v128 : Ref sig .tc := ⟨.hbm, 240, rfl⟩
abbrev main_call1_call0_call0_v129 : Ref sig .tc := ⟨.hbm, 241, rfl⟩
abbrev main_call1_call0_call0_c_33 : Ref sig .tc := ⟨.hbm, 242, rfl⟩
abbrev main_call1_call0_call0_v130 : Ref sig .tc := ⟨.hbm, 243, rfl⟩
abbrev main_call1_call0_call0_v131 : Ref sig .tc := ⟨.hbm, 244, rfl⟩
abbrev main_call1_call0_call0_c_34 : Ref sig .tc := ⟨.hbm, 245, rfl⟩
abbrev main_call1_call0_call0_v132 : Ref sig .tc := ⟨.hbm, 246, rfl⟩
abbrev main_call1_call0_call0_v133 : Ref sig .tc := ⟨.hbm, 247, rfl⟩
abbrev main_call1_call0_call0_v134 : Ref sig .tc := ⟨.hbm, 248, rfl⟩
abbrev main_call1_call0_call0_v135 : Ref sig .tc := ⟨.hbm, 249, rfl⟩
abbrev main_call1_call0_call0_v136 : Ref sig .tc := ⟨.hbm, 250, rfl⟩
abbrev main_call1_call0_call0_v137 : Ref sig .tc := ⟨.hbm, 251, rfl⟩
abbrev main_call1_call0_call0_v138 : Ref sig .tc := ⟨.hbm, 252, rfl⟩
abbrev main_call1_call0_call0_v139 : Ref sig .tc := ⟨.hbm, 253, rfl⟩
abbrev main_call1_call0_call0_c_35 : Ref sig .tc := ⟨.hbm, 254, rfl⟩
abbrev main_call1_call0_call0_v140 : Ref sig .tc := ⟨.hbm, 255, rfl⟩
abbrev main_call1_call0_call0_v141 : Ref sig .tc := ⟨.hbm, 256, rfl⟩
abbrev main_call1_call0_call0_v142 : Ref sig .tc := ⟨.hbm, 257, rfl⟩
abbrev main_call1_call0_call0_c_36 : Ref sig .tc := ⟨.hbm, 258, rfl⟩
abbrev main_call1_call0_call0_v143 : Ref sig .tc := ⟨.hbm, 259, rfl⟩
abbrev main_call1_call0_call0_v144 : Ref sig .tc := ⟨.hbm, 260, rfl⟩
abbrev main_call1_call0_call0_c_37 : Ref sig .tc := ⟨.hbm, 261, rfl⟩
abbrev main_call1_call0_call0_v145 : Ref sig .tc := ⟨.hbm, 262, rfl⟩
abbrev main_call1_call0_call0_v146 : Ref sig .tc := ⟨.hbm, 263, rfl⟩
abbrev main_call1_call0_call0_v147 : Ref sig .tc := ⟨.hbm, 264, rfl⟩
abbrev main_call1_call0_call0_v148 : Ref sig .tc := ⟨.hbm, 265, rfl⟩
abbrev main_call1_call0_call0_v149 : Ref sig .tc := ⟨.hbm, 266, rfl⟩
abbrev main_call1_call0_call0_c_38 : Ref sig .tc := ⟨.hbm, 267, rfl⟩
abbrev main_call1_call0_call0_v150 : Ref sig .tc := ⟨.hbm, 268, rfl⟩
abbrev main_call1_call0_call0_v151 : Ref sig .tc := ⟨.hbm, 269, rfl⟩
abbrev main_call1_call0_call0_c_39 : Ref sig .tc := ⟨.hbm, 270, rfl⟩
abbrev main_call1_call0_call0_v152 : Ref sig .tc := ⟨.hbm, 271, rfl⟩
abbrev main_call1_call0_call0_v153 : Ref sig .tc := ⟨.hbm, 272, rfl⟩
abbrev main_call1_call0_call0_v154 : Ref sig .tc := ⟨.hbm, 273, rfl⟩
abbrev main_call1_call0_call0_v155 : Ref sig .tc := ⟨.hbm, 274, rfl⟩
abbrev main_call1_call0_call0_v156 : Ref sig .tc := ⟨.hbm, 275, rfl⟩
abbrev main_call1_call0_call0_c_40 : Ref sig .tc := ⟨.hbm, 276, rfl⟩
abbrev main_call1_call0_call0_v157 : Ref sig .tc := ⟨.hbm, 277, rfl⟩
abbrev main_call1_call0_call0_v158 : Ref sig .tc := ⟨.hbm, 278, rfl⟩
abbrev main_call1_call0_call0_c_41 : Ref sig .tc := ⟨.hbm, 279, rfl⟩
abbrev main_call1_call0_call0_v159 : Ref sig .tc := ⟨.hbm, 280, rfl⟩
abbrev main_call1_call0_call0_v160 : Ref sig .tc := ⟨.hbm, 281, rfl⟩
abbrev main_call1_call0_call0_v161 : Ref sig .tc := ⟨.hbm, 282, rfl⟩
abbrev main_call1_call0_call0_v162 : Ref sig .tc := ⟨.hbm, 283, rfl⟩
abbrev main_call1_call0_call0_v163 : Ref sig .tc := ⟨.hbm, 284, rfl⟩
abbrev main_call1_call0_call0_c_42 : Ref sig .tc := ⟨.hbm, 285, rfl⟩
abbrev main_call1_call0_call0_v164 : Ref sig .tc := ⟨.hbm, 286, rfl⟩
abbrev main_call1_call0_call0_v165 : Ref sig .tc := ⟨.hbm, 287, rfl⟩
abbrev main_call1_call0_call0_c_43 : Ref sig .tc := ⟨.hbm, 288, rfl⟩
abbrev main_call1_call0_call0_v166 : Ref sig .tc := ⟨.hbm, 289, rfl⟩
abbrev main_call1_call0_call0_v167 : Ref sig .tc := ⟨.hbm, 290, rfl⟩
abbrev main_call1_call0_call0_v168 : Ref sig .tc := ⟨.hbm, 291, rfl⟩
abbrev main_call1_call0_call0_v169 : Ref sig .tc := ⟨.hbm, 292, rfl⟩
abbrev main_call1_call0_call0_v170 : Ref sig .tc := ⟨.hbm, 293, rfl⟩
abbrev main_call1_call0_v22_0 : Ref sig .tc := ⟨.hbm, 294, rfl⟩
abbrev main_call1_call0_call0_v172 : Ref sig .tc := ⟨.hbm, 295, rfl⟩
abbrev main_call1_call0_call0_v173 : Ref sig .tc := ⟨.hbm, 296, rfl⟩
abbrev main_call1_call0_call0_c_44 : Ref sig .tc := ⟨.hbm, 297, rfl⟩
abbrev main_call1_call0_call0_v174 : Ref sig .tc := ⟨.hbm, 298, rfl⟩
abbrev main_call1_call0_v22_1 : Ref sig .tc := ⟨.hbm, 299, rfl⟩
abbrev main_call1_call0_v23 : Ref sig .tc := ⟨.hbm, 300, rfl⟩
abbrev main_call1_call0_c_3 : Ref sig .tc := ⟨.hbm, 301, rfl⟩
abbrev main_call1_call0_v24 : Ref sig .tc := ⟨.hbm, 302, rfl⟩
abbrev main_call1_call0_v25 : Ref sig .tc := ⟨.hbm, 303, rfl⟩
abbrev main_call1_call0_c_4 : Ref sig .tc := ⟨.hbm, 304, rfl⟩
abbrev main_call1_call0_v26 : Ref sig .tc := ⟨.hbm, 305, rfl⟩
abbrev main_call1_call0_v27 : Ref sig .tc := ⟨.hbm, 306, rfl⟩
abbrev main_call1_call0_v28 : Ref sig .tc := ⟨.hbm, 307, rfl⟩
abbrev main_call1_call0_cst : Ref sig .tc := ⟨.hbm, 308, rfl⟩
abbrev main_call1_call0_v29 : Ref sig .tc := ⟨.hbm, 309, rfl⟩
abbrev main_call1_call0_v30 : Ref sig .tc := ⟨.hbm, 310, rfl⟩
abbrev main_call1_call0_v31 : Ref sig .tc := ⟨.hbm, 311, rfl⟩
abbrev main_call1_call0_v32 : Ref sig .tc := ⟨.hbm, 312, rfl⟩
abbrev main_call1_call0_v33 : Ref sig .tc := ⟨.hbm, 313, rfl⟩
abbrev main_call1_call0_v34 : Ref sig .tc := ⟨.hbm, 314, rfl⟩
abbrev main_call1_call0_v35 : Ref sig .tc := ⟨.hbm, 315, rfl⟩
abbrev main_call1_call0_v36 : Ref sig .tc := ⟨.hbm, 316, rfl⟩
abbrev main_call1_v0 : Ref sig .tc := ⟨.hbm, 317, rfl⟩
abbrev main_call1_v1 : Ref sig .tc := ⟨.hbm, 318, rfl⟩
abbrev main_call1_v2 : Ref sig .tc := ⟨.hbm, 319, rfl⟩
abbrev main_call1_v3 : Ref sig .tc := ⟨.hbm, 320, rfl⟩
abbrev main_v31 : Ref sig .tc := ⟨.hbm, 321, rfl⟩
abbrev main_v32 : Ref sig .tc := ⟨.hbm, 322, rfl⟩
abbrev main_call2_v0 : Ref sig .tc := ⟨.hbm, 323, rfl⟩
abbrev main_call2_cst : Ref sig .tc := ⟨.hbm, 324, rfl⟩
abbrev main_call2_c : Ref sig .tc := ⟨.hbm, 325, rfl⟩
abbrev main_call2_v1_0 : Ref sig .tc := ⟨.hbm, 326, rfl⟩
abbrev main_v33 : Ref sig .tc := ⟨.hbm, 327, rfl⟩
abbrev main_call3_v0 : Ref sig .tc := ⟨.hbm, 328, rfl⟩
abbrev main_call3_v1 : Ref sig .tc := ⟨.hbm, 329, rfl⟩
abbrev main_call3_v2 : Ref sig .tc := ⟨.hbm, 330, rfl⟩
abbrev main_call3_v3 : Ref sig .tc := ⟨.hbm, 331, rfl⟩
abbrev main_call3_v4 : Ref sig .tc := ⟨.hbm, 332, rfl⟩
abbrev main_v34 : Ref sig .tc := ⟨.hbm, 333, rfl⟩
abbrev main_v35 : Ref sig .tc := ⟨.hbm, 334, rfl⟩
abbrev main_v36 : Ref sig .tc := ⟨.hbm, 335, rfl⟩
abbrev main_cst_7 : Ref sig .tc := ⟨.hbm, 336, rfl⟩
abbrev main_v37 : Ref sig .tc := ⟨.hbm, 337, rfl⟩
abbrev main_v38 : Ref sig .tc := ⟨.hbm, 338, rfl⟩
abbrev main_v39 : Ref sig .tc := ⟨.hbm, 339, rfl⟩
abbrev main_v40 : Ref sig .tc := ⟨.hbm, 340, rfl⟩
abbrev main_v41 : Ref sig .tc := ⟨.hbm, 341, rfl⟩
abbrev main_v42 : Ref sig .tc := ⟨.hbm, 342, rfl⟩
abbrev main_cst_8 : Ref sig .tc := ⟨.hbm, 343, rfl⟩
abbrev main_v43 : Ref sig .tc := ⟨.hbm, 344, rfl⟩
abbrev main_v44 : Ref sig .tc := ⟨.hbm, 345, rfl⟩
abbrev main_v45 : Ref sig .tc := ⟨.hbm, 346, rfl⟩
abbrev main_v46 : Ref sig .tc := ⟨.hbm, 347, rfl⟩
abbrev main_v47 : Ref sig .tc := ⟨.hbm, 348, rfl⟩
abbrev main_v48 : Ref sig .tc := ⟨.hbm, 349, rfl⟩
abbrev main_v49 : Ref sig .tc := ⟨.hbm, 350, rfl⟩
abbrev main_cst_9 : Ref sig .tc := ⟨.hbm, 351, rfl⟩
abbrev main_v50 : Ref sig .tc := ⟨.hbm, 352, rfl⟩
abbrev main_v51 : Ref sig .tc := ⟨.hbm, 353, rfl⟩
abbrev main_v52 : Ref sig .tc := ⟨.hbm, 354, rfl⟩
abbrev main_v53 : Ref sig .tc := ⟨.hbm, 355, rfl⟩
abbrev main_c_10 : Ref sig .tc := ⟨.hbm, 356, rfl⟩
abbrev main_c_11 : Ref sig .tc := ⟨.hbm, 357, rfl⟩
abbrev main_v54 : Ref sig .tc := ⟨.hbm, 358, rfl⟩
abbrev main_v55 : Ref sig .tc := ⟨.hbm, 359, rfl⟩
abbrev main_v56 : Ref sig .tc := ⟨.hbm, 360, rfl⟩
abbrev main_c_12 : Ref sig .tc := ⟨.hbm, 361, rfl⟩
abbrev main_v57 : Ref sig .tc := ⟨.hbm, 362, rfl⟩
abbrev main_v58 : Ref sig .tc := ⟨.hbm, 363, rfl⟩
abbrev main_v59 : Ref sig .tc := ⟨.hbm, 364, rfl⟩
abbrev main_v60 : Ref sig .tc := ⟨.hbm, 365, rfl⟩
abbrev main_v61 : Ref sig .tc := ⟨.hbm, 366, rfl⟩
abbrev main_v62 : Ref sig .tc := ⟨.hbm, 367, rfl⟩
abbrev main_v63 : Ref sig .tc := ⟨.hbm, 368, rfl⟩
abbrev main_v64 : Ref sig .tc := ⟨.hbm, 369, rfl⟩
abbrev main_call4_cst : Ref sig .tc := ⟨.hbm, 370, rfl⟩
abbrev main_call4_v0 : Ref sig .tc := ⟨.hbm, 371, rfl⟩
abbrev main_v65 : Ref sig .tc := ⟨.hbm, 372, rfl⟩
abbrev main_v66 : Ref sig .tc := ⟨.hbm, 373, rfl⟩
abbrev main_cst_13 : Ref sig .tc := ⟨.hbm, 374, rfl⟩
abbrev main_v67 : Ref sig .tc := ⟨.hbm, 375, rfl⟩
abbrev main_v68 : Ref sig .tc := ⟨.hbm, 376, rfl⟩
abbrev main_v69 : Ref sig .tc := ⟨.hbm, 377, rfl⟩
abbrev main_v70 : Ref sig .tc := ⟨.hbm, 378, rfl⟩
abbrev main_v71 : Ref sig .tc := ⟨.hbm, 379, rfl⟩
abbrev main_v72 : Ref sig .tc := ⟨.hbm, 380, rfl⟩
abbrev main_v73 : Ref sig .tc := ⟨.hbm, 381, rfl⟩
abbrev main_call5_cst : Ref sig .tc := ⟨.hbm, 382, rfl⟩
abbrev main_call5_cst_0 : Ref sig .tc := ⟨.hbm, 383, rfl⟩
abbrev main_call5_call0_v0 : Ref sig .tc := ⟨.hbm, 384, rfl⟩
abbrev main_call5_call0_v1 : Ref sig .tc := ⟨.hbm, 385, rfl⟩
abbrev main_call5_call0_v2 : Ref sig .tc := ⟨.hbm, 386, rfl⟩
abbrev main_call5_call0_v3 : Ref sig .tc := ⟨.hbm, 387, rfl⟩
abbrev main_call5_call0_v4 : Ref sig .tc := ⟨.hbm, 388, rfl⟩
abbrev main_call5_call0_v5 : Ref sig .tc := ⟨.hbm, 389, rfl⟩
abbrev main_call5_call0_v6 : Ref sig .tc := ⟨.hbm, 390, rfl⟩
abbrev main_call5_call0_v7 : Ref sig .tc := ⟨.hbm, 391, rfl⟩
abbrev main_call5_call0_v8 : Ref sig .tc := ⟨.hbm, 392, rfl⟩
abbrev main_call5_call0_v9 : Ref sig .tc := ⟨.hbm, 393, rfl⟩
abbrev main_call5_call0_c : Ref sig .tc := ⟨.hbm, 394, rfl⟩
abbrev main_call5_call0_v10 : Ref sig .tc := ⟨.hbm, 395, rfl⟩
abbrev main_call5_call0_v11 : Ref sig .tc := ⟨.hbm, 396, rfl⟩
abbrev main_call5_call0_c_0 : Ref sig .tc := ⟨.hbm, 397, rfl⟩
abbrev main_call5_call0_v12 : Ref sig .tc := ⟨.hbm, 398, rfl⟩
abbrev main_call5_call0_v13 : Ref sig .tc := ⟨.hbm, 399, rfl⟩
abbrev main_call5_call0_c_1 : Ref sig .tc := ⟨.hbm, 400, rfl⟩
abbrev main_call5_call0_v14 : Ref sig .tc := ⟨.hbm, 401, rfl⟩
abbrev main_call5_call0_v15 : Ref sig .tc := ⟨.hbm, 402, rfl⟩
abbrev main_call5_call0_v16 : Ref sig .tc := ⟨.hbm, 403, rfl⟩
abbrev main_call5_call0_v17 : Ref sig .tc := ⟨.hbm, 404, rfl⟩
abbrev main_call5_call0_c_2 : Ref sig .tc := ⟨.hbm, 405, rfl⟩
abbrev main_call5_call0_v18 : Ref sig .tc := ⟨.hbm, 406, rfl⟩
abbrev main_call5_call0_v19 : Ref sig .tc := ⟨.hbm, 407, rfl⟩
abbrev main_call5_call0_v20 : Ref sig .tc := ⟨.hbm, 408, rfl⟩
abbrev main_call5_call0_v21 : Ref sig .tc := ⟨.hbm, 409, rfl⟩
abbrev main_call5_call0_call0_v0 : Ref sig .tc := ⟨.hbm, 410, rfl⟩
abbrev main_call5_call0_call0_c : Ref sig .tc := ⟨.hbm, 411, rfl⟩
abbrev main_call5_call0_call0_v1 : Ref sig .tc := ⟨.hbm, 412, rfl⟩
abbrev main_call5_call0_call0_v2 : Ref sig .tc := ⟨.hbm, 413, rfl⟩
abbrev main_call5_call0_call0_v3 : Ref sig .tc := ⟨.hbm, 414, rfl⟩
abbrev main_call5_call0_call0_v4 : Ref sig .tc := ⟨.hbm, 415, rfl⟩
abbrev main_call5_call0_call0_v5 : Ref sig .tc := ⟨.hbm, 416, rfl⟩
abbrev main_call5_call0_call0_v6 : Ref sig .tc := ⟨.hbm, 417, rfl⟩
abbrev main_call5_call0_call0_c_0 : Ref sig .tc := ⟨.hbm, 418, rfl⟩
abbrev main_call5_call0_call0_v7 : Ref sig .tc := ⟨.hbm, 419, rfl⟩
abbrev main_call5_call0_call0_v8 : Ref sig .tc := ⟨.hbm, 420, rfl⟩
abbrev main_call5_call0_call0_c_1 : Ref sig .tc := ⟨.hbm, 421, rfl⟩
abbrev main_call5_call0_call0_v9 : Ref sig .tc := ⟨.hbm, 422, rfl⟩
abbrev main_call5_call0_call0_v10 : Ref sig .tc := ⟨.hbm, 423, rfl⟩
abbrev main_call5_call0_call0_v11 : Ref sig .tc := ⟨.hbm, 424, rfl⟩
abbrev main_call5_call0_call0_v12 : Ref sig .tc := ⟨.hbm, 425, rfl⟩
abbrev main_call5_call0_call0_v13 : Ref sig .tc := ⟨.hbm, 426, rfl⟩
abbrev main_call5_call0_call0_c_2 : Ref sig .tc := ⟨.hbm, 427, rfl⟩
abbrev main_call5_call0_call0_v14 : Ref sig .tc := ⟨.hbm, 428, rfl⟩
abbrev main_call5_call0_call0_v15 : Ref sig .tc := ⟨.hbm, 429, rfl⟩
abbrev main_call5_call0_call0_c_3 : Ref sig .tc := ⟨.hbm, 430, rfl⟩
abbrev main_call5_call0_call0_v16 : Ref sig .tc := ⟨.hbm, 431, rfl⟩
abbrev main_call5_call0_call0_v17 : Ref sig .tc := ⟨.hbm, 432, rfl⟩
abbrev main_call5_call0_call0_v18 : Ref sig .tc := ⟨.hbm, 433, rfl⟩
abbrev main_call5_call0_call0_v19 : Ref sig .tc := ⟨.hbm, 434, rfl⟩
abbrev main_call5_call0_call0_v20 : Ref sig .tc := ⟨.hbm, 435, rfl⟩
abbrev main_call5_call0_call0_c_4 : Ref sig .tc := ⟨.hbm, 436, rfl⟩
abbrev main_call5_call0_call0_v21 : Ref sig .tc := ⟨.hbm, 437, rfl⟩
abbrev main_call5_call0_call0_v22 : Ref sig .tc := ⟨.hbm, 438, rfl⟩
abbrev main_call5_call0_call0_c_5 : Ref sig .tc := ⟨.hbm, 439, rfl⟩
abbrev main_call5_call0_call0_v23 : Ref sig .tc := ⟨.hbm, 440, rfl⟩
abbrev main_call5_call0_call0_v24 : Ref sig .tc := ⟨.hbm, 441, rfl⟩
abbrev main_call5_call0_call0_v25 : Ref sig .tc := ⟨.hbm, 442, rfl⟩
abbrev main_call5_call0_call0_v26 : Ref sig .tc := ⟨.hbm, 443, rfl⟩
abbrev main_call5_call0_call0_v27 : Ref sig .tc := ⟨.hbm, 444, rfl⟩
abbrev main_call5_call0_call0_c_6 : Ref sig .tc := ⟨.hbm, 445, rfl⟩
abbrev main_call5_call0_call0_v28 : Ref sig .tc := ⟨.hbm, 446, rfl⟩
abbrev main_call5_call0_call0_v29 : Ref sig .tc := ⟨.hbm, 447, rfl⟩
abbrev main_call5_call0_call0_c_7 : Ref sig .tc := ⟨.hbm, 448, rfl⟩
abbrev main_call5_call0_call0_v30 : Ref sig .tc := ⟨.hbm, 449, rfl⟩
abbrev main_call5_call0_call0_v31 : Ref sig .tc := ⟨.hbm, 450, rfl⟩
abbrev main_call5_call0_call0_v32 : Ref sig .tc := ⟨.hbm, 451, rfl⟩
abbrev main_call5_call0_call0_v33 : Ref sig .tc := ⟨.hbm, 452, rfl⟩
abbrev main_call5_call0_call0_v34 : Ref sig .tc := ⟨.hbm, 453, rfl⟩
abbrev main_call5_call0_call0_v35 : Ref sig .tc := ⟨.hbm, 454, rfl⟩
abbrev main_call5_call0_call0_v36 : Ref sig .tc := ⟨.hbm, 455, rfl⟩
abbrev main_call5_call0_call0_v37 : Ref sig .tc := ⟨.hbm, 456, rfl⟩
abbrev main_call5_call0_call0_c_8 : Ref sig .tc := ⟨.hbm, 457, rfl⟩
abbrev main_call5_call0_call0_v38 : Ref sig .tc := ⟨.hbm, 458, rfl⟩
abbrev main_call5_call0_call0_v39 : Ref sig .tc := ⟨.hbm, 459, rfl⟩
abbrev main_call5_call0_call0_v40 : Ref sig .tc := ⟨.hbm, 460, rfl⟩
abbrev main_call5_call0_call0_c_9 : Ref sig .tc := ⟨.hbm, 461, rfl⟩
abbrev main_call5_call0_call0_v41 : Ref sig .tc := ⟨.hbm, 462, rfl⟩
abbrev main_call5_call0_call0_v42 : Ref sig .tc := ⟨.hbm, 463, rfl⟩
abbrev main_call5_call0_call0_c_10 : Ref sig .tc := ⟨.hbm, 464, rfl⟩
abbrev main_call5_call0_call0_v43 : Ref sig .tc := ⟨.hbm, 465, rfl⟩
abbrev main_call5_call0_call0_v44 : Ref sig .tc := ⟨.hbm, 466, rfl⟩
abbrev main_call5_call0_call0_v45 : Ref sig .tc := ⟨.hbm, 467, rfl⟩
abbrev main_call5_call0_call0_v46 : Ref sig .tc := ⟨.hbm, 468, rfl⟩
abbrev main_call5_call0_call0_v47 : Ref sig .tc := ⟨.hbm, 469, rfl⟩
abbrev main_call5_call0_call0_c_11 : Ref sig .tc := ⟨.hbm, 470, rfl⟩
abbrev main_call5_call0_call0_v48 : Ref sig .tc := ⟨.hbm, 471, rfl⟩
abbrev main_call5_call0_call0_v49 : Ref sig .tc := ⟨.hbm, 472, rfl⟩
abbrev main_call5_call0_call0_c_12 : Ref sig .tc := ⟨.hbm, 473, rfl⟩
abbrev main_call5_call0_call0_v50 : Ref sig .tc := ⟨.hbm, 474, rfl⟩
abbrev main_call5_call0_call0_v51 : Ref sig .tc := ⟨.hbm, 475, rfl⟩
abbrev main_call5_call0_call0_v52 : Ref sig .tc := ⟨.hbm, 476, rfl⟩
abbrev main_call5_call0_call0_v53 : Ref sig .tc := ⟨.hbm, 477, rfl⟩
abbrev main_call5_call0_call0_v54 : Ref sig .tc := ⟨.hbm, 478, rfl⟩
abbrev main_call5_call0_call0_c_13 : Ref sig .tc := ⟨.hbm, 479, rfl⟩
abbrev main_call5_call0_call0_v55 : Ref sig .tc := ⟨.hbm, 480, rfl⟩
abbrev main_call5_call0_call0_v56 : Ref sig .tc := ⟨.hbm, 481, rfl⟩
abbrev main_call5_call0_call0_c_14 : Ref sig .tc := ⟨.hbm, 482, rfl⟩
abbrev main_call5_call0_call0_v57 : Ref sig .tc := ⟨.hbm, 483, rfl⟩
abbrev main_call5_call0_call0_v58 : Ref sig .tc := ⟨.hbm, 484, rfl⟩
abbrev main_call5_call0_call0_v59 : Ref sig .tc := ⟨.hbm, 485, rfl⟩
abbrev main_call5_call0_call0_v60 : Ref sig .tc := ⟨.hbm, 486, rfl⟩
abbrev main_call5_call0_call0_v61 : Ref sig .tc := ⟨.hbm, 487, rfl⟩
abbrev main_call5_call0_call0_c_15 : Ref sig .tc := ⟨.hbm, 488, rfl⟩
abbrev main_call5_call0_call0_v62 : Ref sig .tc := ⟨.hbm, 489, rfl⟩
abbrev main_call5_call0_call0_v63 : Ref sig .tc := ⟨.hbm, 490, rfl⟩
abbrev main_call5_call0_call0_c_16 : Ref sig .tc := ⟨.hbm, 491, rfl⟩
abbrev main_call5_call0_call0_v64 : Ref sig .tc := ⟨.hbm, 492, rfl⟩
abbrev main_call5_call0_call0_v65 : Ref sig .tc := ⟨.hbm, 493, rfl⟩
abbrev main_call5_call0_call0_v66 : Ref sig .tc := ⟨.hbm, 494, rfl⟩
abbrev main_call5_call0_call0_v67 : Ref sig .tc := ⟨.hbm, 495, rfl⟩
abbrev main_call5_call0_call0_v68 : Ref sig .tc := ⟨.hbm, 496, rfl⟩
abbrev main_call5_call0_call0_v69 : Ref sig .tc := ⟨.hbm, 497, rfl⟩
abbrev main_call5_call0_call0_v70 : Ref sig .tc := ⟨.hbm, 498, rfl⟩
abbrev main_call5_call0_call0_v71 : Ref sig .tc := ⟨.hbm, 499, rfl⟩
abbrev main_call5_call0_call0_c_17 : Ref sig .tc := ⟨.hbm, 500, rfl⟩
abbrev main_call5_call0_call0_v72 : Ref sig .tc := ⟨.hbm, 501, rfl⟩
abbrev main_call5_call0_call0_v73 : Ref sig .tc := ⟨.hbm, 502, rfl⟩
abbrev main_call5_call0_call0_v74 : Ref sig .tc := ⟨.hbm, 503, rfl⟩
abbrev main_call5_call0_call0_c_18 : Ref sig .tc := ⟨.hbm, 504, rfl⟩
abbrev main_call5_call0_call0_v75 : Ref sig .tc := ⟨.hbm, 505, rfl⟩
abbrev main_call5_call0_call0_v76 : Ref sig .tc := ⟨.hbm, 506, rfl⟩
abbrev main_call5_call0_call0_c_19 : Ref sig .tc := ⟨.hbm, 507, rfl⟩
abbrev main_call5_call0_call0_v77 : Ref sig .tc := ⟨.hbm, 508, rfl⟩
abbrev main_call5_call0_call0_v78 : Ref sig .tc := ⟨.hbm, 509, rfl⟩
abbrev main_call5_call0_call0_v79 : Ref sig .tc := ⟨.hbm, 510, rfl⟩
abbrev main_call5_call0_call0_v80 : Ref sig .tc := ⟨.hbm, 511, rfl⟩
abbrev main_call5_call0_call0_v81 : Ref sig .tc := ⟨.hbm, 512, rfl⟩
abbrev main_call5_call0_call0_c_20 : Ref sig .tc := ⟨.hbm, 513, rfl⟩
abbrev main_call5_call0_call0_v82 : Ref sig .tc := ⟨.hbm, 514, rfl⟩
abbrev main_call5_call0_call0_v83 : Ref sig .tc := ⟨.hbm, 515, rfl⟩
abbrev main_call5_call0_call0_c_21 : Ref sig .tc := ⟨.hbm, 516, rfl⟩
abbrev main_call5_call0_call0_v84 : Ref sig .tc := ⟨.hbm, 517, rfl⟩
abbrev main_call5_call0_call0_v85 : Ref sig .tc := ⟨.hbm, 518, rfl⟩
abbrev main_call5_call0_call0_v86 : Ref sig .tc := ⟨.hbm, 519, rfl⟩
abbrev main_call5_call0_call0_v87 : Ref sig .tc := ⟨.hbm, 520, rfl⟩
abbrev main_call5_call0_call0_v88 : Ref sig .tc := ⟨.hbm, 521, rfl⟩
abbrev main_call5_call0_call0_c_22 : Ref sig .tc := ⟨.hbm, 522, rfl⟩
abbrev main_call5_call0_call0_v89 : Ref sig .tc := ⟨.hbm, 523, rfl⟩
abbrev main_call5_call0_call0_v90 : Ref sig .tc := ⟨.hbm, 524, rfl⟩
abbrev main_call5_call0_call0_c_23 : Ref sig .tc := ⟨.hbm, 525, rfl⟩
abbrev main_call5_call0_call0_v91 : Ref sig .tc := ⟨.hbm, 526, rfl⟩
abbrev main_call5_call0_call0_v92 : Ref sig .tc := ⟨.hbm, 527, rfl⟩
abbrev main_call5_call0_call0_v93 : Ref sig .tc := ⟨.hbm, 528, rfl⟩
abbrev main_call5_call0_call0_v94 : Ref sig .tc := ⟨.hbm, 529, rfl⟩
abbrev main_call5_call0_call0_v95 : Ref sig .tc := ⟨.hbm, 530, rfl⟩
abbrev main_call5_call0_call0_c_24 : Ref sig .tc := ⟨.hbm, 531, rfl⟩
abbrev main_call5_call0_call0_v96 : Ref sig .tc := ⟨.hbm, 532, rfl⟩
abbrev main_call5_call0_call0_v97 : Ref sig .tc := ⟨.hbm, 533, rfl⟩
abbrev main_call5_call0_call0_c_25 : Ref sig .tc := ⟨.hbm, 534, rfl⟩
abbrev main_call5_call0_call0_v98 : Ref sig .tc := ⟨.hbm, 535, rfl⟩
abbrev main_call5_call0_call0_v99 : Ref sig .tc := ⟨.hbm, 536, rfl⟩
abbrev main_call5_call0_call0_v100 : Ref sig .tc := ⟨.hbm, 537, rfl⟩
abbrev main_call5_call0_call0_v101 : Ref sig .tc := ⟨.hbm, 538, rfl⟩
abbrev main_call5_call0_call0_v102 : Ref sig .tc := ⟨.hbm, 539, rfl⟩
abbrev main_call5_call0_call0_v103 : Ref sig .tc := ⟨.hbm, 540, rfl⟩
abbrev main_call5_call0_call0_v104 : Ref sig .tc := ⟨.hbm, 541, rfl⟩
abbrev main_call5_call0_call0_v105 : Ref sig .tc := ⟨.hbm, 542, rfl⟩
abbrev main_call5_call0_call0_c_26 : Ref sig .tc := ⟨.hbm, 543, rfl⟩
abbrev main_call5_call0_call0_v106 : Ref sig .tc := ⟨.hbm, 544, rfl⟩
abbrev main_call5_call0_call0_v107 : Ref sig .tc := ⟨.hbm, 545, rfl⟩
abbrev main_call5_call0_call0_v108 : Ref sig .tc := ⟨.hbm, 546, rfl⟩
abbrev main_call5_call0_call0_c_27 : Ref sig .tc := ⟨.hbm, 547, rfl⟩
abbrev main_call5_call0_call0_v109 : Ref sig .tc := ⟨.hbm, 548, rfl⟩
abbrev main_call5_call0_call0_v110 : Ref sig .tc := ⟨.hbm, 549, rfl⟩
abbrev main_call5_call0_call0_c_28 : Ref sig .tc := ⟨.hbm, 550, rfl⟩
abbrev main_call5_call0_call0_v111 : Ref sig .tc := ⟨.hbm, 551, rfl⟩
abbrev main_call5_call0_call0_v112 : Ref sig .tc := ⟨.hbm, 552, rfl⟩
abbrev main_call5_call0_call0_v113 : Ref sig .tc := ⟨.hbm, 553, rfl⟩
abbrev main_call5_call0_call0_v114 : Ref sig .tc := ⟨.hbm, 554, rfl⟩
abbrev main_call5_call0_call0_v115 : Ref sig .tc := ⟨.hbm, 555, rfl⟩
abbrev main_call5_call0_call0_c_29 : Ref sig .tc := ⟨.hbm, 556, rfl⟩
abbrev main_call5_call0_call0_v116 : Ref sig .tc := ⟨.hbm, 557, rfl⟩
abbrev main_call5_call0_call0_v117 : Ref sig .tc := ⟨.hbm, 558, rfl⟩
abbrev main_call5_call0_call0_c_30 : Ref sig .tc := ⟨.hbm, 559, rfl⟩
abbrev main_call5_call0_call0_v118 : Ref sig .tc := ⟨.hbm, 560, rfl⟩
abbrev main_call5_call0_call0_v119 : Ref sig .tc := ⟨.hbm, 561, rfl⟩
abbrev main_call5_call0_call0_v120 : Ref sig .tc := ⟨.hbm, 562, rfl⟩
abbrev main_call5_call0_call0_v121 : Ref sig .tc := ⟨.hbm, 563, rfl⟩
abbrev main_call5_call0_call0_v122 : Ref sig .tc := ⟨.hbm, 564, rfl⟩
abbrev main_call5_call0_call0_c_31 : Ref sig .tc := ⟨.hbm, 565, rfl⟩
abbrev main_call5_call0_call0_v123 : Ref sig .tc := ⟨.hbm, 566, rfl⟩
abbrev main_call5_call0_call0_v124 : Ref sig .tc := ⟨.hbm, 567, rfl⟩
abbrev main_call5_call0_call0_c_32 : Ref sig .tc := ⟨.hbm, 568, rfl⟩
abbrev main_call5_call0_call0_v125 : Ref sig .tc := ⟨.hbm, 569, rfl⟩
abbrev main_call5_call0_call0_v126 : Ref sig .tc := ⟨.hbm, 570, rfl⟩
abbrev main_call5_call0_call0_v127 : Ref sig .tc := ⟨.hbm, 571, rfl⟩
abbrev main_call5_call0_call0_v128 : Ref sig .tc := ⟨.hbm, 572, rfl⟩
abbrev main_call5_call0_call0_v129 : Ref sig .tc := ⟨.hbm, 573, rfl⟩
abbrev main_call5_call0_call0_c_33 : Ref sig .tc := ⟨.hbm, 574, rfl⟩
abbrev main_call5_call0_call0_v130 : Ref sig .tc := ⟨.hbm, 575, rfl⟩
abbrev main_call5_call0_call0_v131 : Ref sig .tc := ⟨.hbm, 576, rfl⟩
abbrev main_call5_call0_call0_c_34 : Ref sig .tc := ⟨.hbm, 577, rfl⟩
abbrev main_call5_call0_call0_v132 : Ref sig .tc := ⟨.hbm, 578, rfl⟩
abbrev main_call5_call0_call0_v133 : Ref sig .tc := ⟨.hbm, 579, rfl⟩
abbrev main_call5_call0_call0_v134 : Ref sig .tc := ⟨.hbm, 580, rfl⟩
abbrev main_call5_call0_call0_v135 : Ref sig .tc := ⟨.hbm, 581, rfl⟩
abbrev main_call5_call0_call0_v136 : Ref sig .tc := ⟨.hbm, 582, rfl⟩
abbrev main_call5_call0_call0_v137 : Ref sig .tc := ⟨.hbm, 583, rfl⟩
abbrev main_call5_call0_call0_v138 : Ref sig .tc := ⟨.hbm, 584, rfl⟩
abbrev main_call5_call0_call0_v139 : Ref sig .tc := ⟨.hbm, 585, rfl⟩
abbrev main_call5_call0_call0_c_35 : Ref sig .tc := ⟨.hbm, 586, rfl⟩
abbrev main_call5_call0_call0_v140 : Ref sig .tc := ⟨.hbm, 587, rfl⟩
abbrev main_call5_call0_call0_v141 : Ref sig .tc := ⟨.hbm, 588, rfl⟩
abbrev main_call5_call0_call0_v142 : Ref sig .tc := ⟨.hbm, 589, rfl⟩
abbrev main_call5_call0_call0_c_36 : Ref sig .tc := ⟨.hbm, 590, rfl⟩
abbrev main_call5_call0_call0_v143 : Ref sig .tc := ⟨.hbm, 591, rfl⟩
abbrev main_call5_call0_call0_v144 : Ref sig .tc := ⟨.hbm, 592, rfl⟩
abbrev main_call5_call0_call0_c_37 : Ref sig .tc := ⟨.hbm, 593, rfl⟩
abbrev main_call5_call0_call0_v145 : Ref sig .tc := ⟨.hbm, 594, rfl⟩
abbrev main_call5_call0_call0_v146 : Ref sig .tc := ⟨.hbm, 595, rfl⟩
abbrev main_call5_call0_call0_v147 : Ref sig .tc := ⟨.hbm, 596, rfl⟩
abbrev main_call5_call0_call0_v148 : Ref sig .tc := ⟨.hbm, 597, rfl⟩
abbrev main_call5_call0_call0_v149 : Ref sig .tc := ⟨.hbm, 598, rfl⟩
abbrev main_call5_call0_call0_c_38 : Ref sig .tc := ⟨.hbm, 599, rfl⟩
abbrev main_call5_call0_call0_v150 : Ref sig .tc := ⟨.hbm, 600, rfl⟩
abbrev main_call5_call0_call0_v151 : Ref sig .tc := ⟨.hbm, 601, rfl⟩
abbrev main_call5_call0_call0_c_39 : Ref sig .tc := ⟨.hbm, 602, rfl⟩
abbrev main_call5_call0_call0_v152 : Ref sig .tc := ⟨.hbm, 603, rfl⟩
abbrev main_call5_call0_call0_v153 : Ref sig .tc := ⟨.hbm, 604, rfl⟩
abbrev main_call5_call0_call0_v154 : Ref sig .tc := ⟨.hbm, 605, rfl⟩
abbrev main_call5_call0_call0_v155 : Ref sig .tc := ⟨.hbm, 606, rfl⟩
abbrev main_call5_call0_call0_v156 : Ref sig .tc := ⟨.hbm, 607, rfl⟩
abbrev main_call5_call0_call0_c_40 : Ref sig .tc := ⟨.hbm, 608, rfl⟩
abbrev main_call5_call0_call0_v157 : Ref sig .tc := ⟨.hbm, 609, rfl⟩
abbrev main_call5_call0_call0_v158 : Ref sig .tc := ⟨.hbm, 610, rfl⟩
abbrev main_call5_call0_call0_c_41 : Ref sig .tc := ⟨.hbm, 611, rfl⟩
abbrev main_call5_call0_call0_v159 : Ref sig .tc := ⟨.hbm, 612, rfl⟩
abbrev main_call5_call0_call0_v160 : Ref sig .tc := ⟨.hbm, 613, rfl⟩
abbrev main_call5_call0_call0_v161 : Ref sig .tc := ⟨.hbm, 614, rfl⟩
abbrev main_call5_call0_call0_v162 : Ref sig .tc := ⟨.hbm, 615, rfl⟩
abbrev main_call5_call0_call0_v163 : Ref sig .tc := ⟨.hbm, 616, rfl⟩
abbrev main_call5_call0_call0_c_42 : Ref sig .tc := ⟨.hbm, 617, rfl⟩
abbrev main_call5_call0_call0_v164 : Ref sig .tc := ⟨.hbm, 618, rfl⟩
abbrev main_call5_call0_call0_v165 : Ref sig .tc := ⟨.hbm, 619, rfl⟩
abbrev main_call5_call0_call0_c_43 : Ref sig .tc := ⟨.hbm, 620, rfl⟩
abbrev main_call5_call0_call0_v166 : Ref sig .tc := ⟨.hbm, 621, rfl⟩
abbrev main_call5_call0_call0_v167 : Ref sig .tc := ⟨.hbm, 622, rfl⟩
abbrev main_call5_call0_call0_v168 : Ref sig .tc := ⟨.hbm, 623, rfl⟩
abbrev main_call5_call0_call0_v169 : Ref sig .tc := ⟨.hbm, 624, rfl⟩
abbrev main_call5_call0_call0_v170 : Ref sig .tc := ⟨.hbm, 625, rfl⟩
abbrev main_call5_call0_v22_0 : Ref sig .tc := ⟨.hbm, 626, rfl⟩
abbrev main_call5_call0_call0_v172 : Ref sig .tc := ⟨.hbm, 627, rfl⟩
abbrev main_call5_call0_call0_v173 : Ref sig .tc := ⟨.hbm, 628, rfl⟩
abbrev main_call5_call0_call0_c_44 : Ref sig .tc := ⟨.hbm, 629, rfl⟩
abbrev main_call5_call0_call0_v174 : Ref sig .tc := ⟨.hbm, 630, rfl⟩
abbrev main_call5_call0_v22_1 : Ref sig .tc := ⟨.hbm, 631, rfl⟩
abbrev main_call5_call0_v23 : Ref sig .tc := ⟨.hbm, 632, rfl⟩
abbrev main_call5_call0_c_3 : Ref sig .tc := ⟨.hbm, 633, rfl⟩
abbrev main_call5_call0_v24 : Ref sig .tc := ⟨.hbm, 634, rfl⟩
abbrev main_call5_call0_v25 : Ref sig .tc := ⟨.hbm, 635, rfl⟩
abbrev main_call5_call0_c_4 : Ref sig .tc := ⟨.hbm, 636, rfl⟩
abbrev main_call5_call0_v26 : Ref sig .tc := ⟨.hbm, 637, rfl⟩
abbrev main_call5_call0_v27 : Ref sig .tc := ⟨.hbm, 638, rfl⟩
abbrev main_call5_call0_v28 : Ref sig .tc := ⟨.hbm, 639, rfl⟩
abbrev main_call5_call0_cst : Ref sig .tc := ⟨.hbm, 640, rfl⟩
abbrev main_call5_call0_v29 : Ref sig .tc := ⟨.hbm, 641, rfl⟩
abbrev main_call5_call0_v30 : Ref sig .tc := ⟨.hbm, 642, rfl⟩
abbrev main_call5_call0_v31 : Ref sig .tc := ⟨.hbm, 643, rfl⟩
abbrev main_call5_call0_v32 : Ref sig .tc := ⟨.hbm, 644, rfl⟩
abbrev main_call5_call0_v33 : Ref sig .tc := ⟨.hbm, 645, rfl⟩
abbrev main_call5_call0_v34 : Ref sig .tc := ⟨.hbm, 646, rfl⟩
abbrev main_call5_call0_v35 : Ref sig .tc := ⟨.hbm, 647, rfl⟩
abbrev main_call5_call0_v36 : Ref sig .tc := ⟨.hbm, 648, rfl⟩
abbrev main_call5_v0 : Ref sig .tc := ⟨.hbm, 649, rfl⟩
abbrev main_call5_v1 : Ref sig .tc := ⟨.hbm, 650, rfl⟩
abbrev main_call5_v2 : Ref sig .tc := ⟨.hbm, 651, rfl⟩
abbrev main_call5_v3 : Ref sig .tc := ⟨.hbm, 652, rfl⟩
abbrev main_v74 : Ref sig .tc := ⟨.hbm, 653, rfl⟩
abbrev main_v75 : Ref sig .tc := ⟨.hbm, 654, rfl⟩
abbrev main_call6_v0 : Ref sig .tc := ⟨.hbm, 655, rfl⟩
abbrev main_call6_cst : Ref sig .tc := ⟨.hbm, 656, rfl⟩
abbrev main_call6_c : Ref sig .tc := ⟨.hbm, 657, rfl⟩
abbrev main_call6_v1_0 : Ref sig .tc := ⟨.hbm, 658, rfl⟩
abbrev main_v76 : Ref sig .tc := ⟨.hbm, 659, rfl⟩
abbrev main_call7_v0 : Ref sig .tc := ⟨.hbm, 660, rfl⟩
abbrev main_call7_v1 : Ref sig .tc := ⟨.hbm, 661, rfl⟩
abbrev main_call7_v2 : Ref sig .tc := ⟨.hbm, 662, rfl⟩
abbrev main_call7_v3 : Ref sig .tc := ⟨.hbm, 663, rfl⟩
abbrev main_call7_v4 : Ref sig .tc := ⟨.hbm, 664, rfl⟩
abbrev main_v77 : Ref sig .tc := ⟨.hbm, 665, rfl⟩
abbrev main_v78 : Ref sig .tc := ⟨.hbm, 666, rfl⟩
abbrev main_v79 : Ref sig .tc := ⟨.hbm, 667, rfl⟩
abbrev main_cst_14 : Ref sig .tc := ⟨.hbm, 668, rfl⟩
abbrev main_v80 : Ref sig .tc := ⟨.hbm, 669, rfl⟩

abbrev nD : Nat := 1
abbrev τ : Topo := Topo.v7x

variable {F : FTy → Type} [FloatOps F]
-- ==== Proof.Line.lean ====
module

public import Idealize.ShloMosaic.Lib.StableHlo.Run

/-! A host program that runs one operation after another, each writing one buffer no earlier operation
touched: its run, and the equations its final contents satisfy.

If no operation writes a buffer that an earlier one read or wrote, then the contents at the end solve every
operation's equation at once: the buffer an operation writes holds the operation's function of what its
operands hold at the end. A long program is read off as that system of equations, one function body at a time. -/

@[expose] public section

noncomputable section

namespace Line

open Idealize.ShloMosaic Idealize.ShloMosaic.TcCoe Idealize.SL.Sem Idealize.ShloMosaic.StableHlo

variable {nD : Nat} {τ : Topo} {sig : RefSig} {Val : EltTy → Type} {Λ : Labels}

/-- The device buffer of a reference. -/
abbrev at' (r : Ref sig .tc) : DevRef τ sig := Proc.devRef .tc r

/-- The operation reads the buffers of the list `ins` only, and writes `out`. -/
structure Plain (op : HloOp τ sig Val) (ins : List (Ref sig .tc)) (out : Ref sig .tc) : Prop where
  sub : op.bufs ⊆ tcRefs τ sig
  fresh : op.fresh = ∅
  writes : op.writes = {(at' out : DevRef τ sig)}
  congr : ∀ V W : Valuation τ sig Val, (∀ r ∈ ins, V (at' r) = W (at' r)) → op.result V (at' out) = op.result W (at' out)

section Builders

variable {x a b c e y : Ref sig .tc}

/-- A constant reads nothing and writes its buffer. -/
theorem plain_nullary (v : y.ty.Contents Val) (hy) : Plain (nullary (τ := τ) y v hy) [] y :=
  ⟨nullary_bufs_sub .., rfl, rfl, fun V W _ => by rw [nullary_result, nullary_result]⟩

/-- A one-operand operation reads its operand and writes its buffer. -/
theorem plain_unary (f : x.ty.Contents Val → y.ty.Contents Val) (hx hy) : Plain (unary (τ := τ) x y f hx hy) [x] y :=
  ⟨unary_bufs_sub .., rfl, rfl, fun V W h => by
    rw [unary_result, unary_result, h x (by simp)]⟩

/-- A two-operand operation reads its operands and writes its buffer. -/
theorem plain_binary (f : a.ty.Contents Val → b.ty.Contents Val → y.ty.Contents Val) (ha hb hy) :
    Plain (binary (τ := τ) a b y f ha hb hy) [a, b] y :=
  ⟨binary_bufs_sub .., rfl, rfl, fun V W h => by
    rw [binary_result, binary_result, h a (by simp), h b (by simp)]⟩

/-- A four-operand operation reads its operands and writes its buffer. -/
theorem plain_quaternary (f : a.ty.Contents Val → b.ty.Contents Val → c.ty.Contents Val → e.ty.Contents Val → y.ty.Contents Val)
    (ha hb hc he hy) : Plain (quaternary (τ := τ) a b c e y f ha hb hc he hy) [a, b, c, e] y :=
  ⟨quaternary_bufs_sub .., rfl, rfl, fun V W h => by
    rw [quaternary_result, quaternary_result, h a (by simp), h b (by simp), h c (by simp), h e (by simp)]⟩

/-- A reshape reads its operand and writes its buffer. -/
theorem plain_reshape (he hn hx hy) : Plain (reshape (τ := τ) (Val := Val) x y he hn hx hy) [x] y :=
  ⟨reshape_bufs_sub .., rfl, rfl, fun V W h => by
    rw [reshape_result, reshape_result, h x (by simp)]⟩

/-- A many-operand operation reads its operands and writes its buffer. -/
theorem plain_nary {n : Nat} (xs : Fin n → Ref sig .tc) (f : ((k : Fin n) → (xs k).ty.Contents Val) → y.ty.Contents Val) (hxs hy) :
    Plain (nary (τ := τ) xs y f hxs hy) (List.ofFn xs) y :=
  ⟨nary_bufs_sub .., rfl, rfl, fun V W h => by
    rw [nary_result, nary_result]
    exact congrArg f (funext fun k => h (xs k) (List.mem_ofFn.mpr ⟨k, rfl⟩))⟩

end Builders

/-- The program runs operations one after the other, and this list names what each reads and writes. -/
inductive Straight : Prog (TpuEff nD τ sig Val Λ .tc) PUnit → List (List (Ref sig .tc) × Ref sig .tc) → Prop
  | nil : Straight (pure ⟨⟩) []
  | op {o : HloOp τ sig Val} {ins : List (Ref sig .tc)} {out : Ref sig .tc} (h : Plain o ins out) :
      Straight (hlo rfl o fun _ => .ret (⟨⟩ : PUnit)) [(ins, out)]
  | bind {p : Prog (TpuEff nD τ sig Val Λ .tc) PUnit} {k : PUnit → Prog (TpuEff nD τ sig Val Λ .tc) PUnit}
      {L M : List (List (Ref sig .tc) × Ref sig .tc)} :
      Straight p L → Straight (k ⟨⟩) M → Straight (p >>= k) (L ++ M)

/-- A buffer's number. -/
def key (r : Ref sig .tc) : Nat := r.idx.val

/-- The set of buffer numbers with `r`'s added, as the bits of a number. -/
def mark (m : Nat) (r : Ref sig .tc) : Nat := m ||| (1 <<< key r)

/-- No operation writes a buffer marked at its start or touched before it, nor one of its own operands. -/
def fresh : Nat → List (List (Ref sig .tc) × Ref sig .tc) → Bool
  | _, [] => true
  | m, (ins, out) :: L => !(ins.foldl mark m).testBit (key out) && fresh (mark (ins.foldl mark m) out) L

/-- The marks after one more buffer is marked. -/
theorem testBit_mark (m : Nat) (r : Ref sig .tc) (k : Nat) : (mark m r).testBit k = (m.testBit k || decide (key r = k)) := by
  rw [mark, Nat.testBit_or, Nat.one_shiftLeft, Nat.testBit_two_pow]

/-- A mark stays when more buffers are marked. -/
theorem testBit_foldl {k : Nat} : ∀ (ins : List (Ref sig .tc)) (m : Nat), m.testBit k = true → (ins.foldl mark m).testBit k = true
  | [], _, h => h
  | r :: ins, m, h => testBit_foldl ins _ (by rw [testBit_mark, h, Bool.true_or])

/-- A buffer in the list is marked after the list is. -/
theorem testBit_foldl_mem : ∀ (ins : List (Ref sig .tc)) (m : Nat) (r : Ref sig .tc), r ∈ ins → (ins.foldl mark m).testBit (key r) = true
  | r :: ins, m, _, .head _ => testBit_foldl ins _ (by rw [testBit_mark]; simp)
  | _ :: ins, m, r, .tail _ h => testBit_foldl_mem ins _ r h

/-- Operations that read and write as the list says, one for each entry. -/
def Follows : List (HloOp τ sig Val) → List (List (Ref sig .tc) × Ref sig .tc) → Prop :=
  List.Forall₂ fun o e => Plain o e.1 e.2

/-- Each of the operations reads and writes as some entry says. -/
theorem mem_follows {ops : List (HloOp τ sig Val)} {L : List (List (Ref sig .tc) × Ref sig .tc)} (h : Follows ops L) {o : HloOp τ sig Val}
    (ho : o ∈ ops) : ∃ e : List (Ref sig .tc) × Ref sig .tc, Plain o e.1 e.2 := by
  induction h with
  | nil => cases ho
  | cons h _ ih => cases ho with
    | head => exact ⟨_, h⟩
    | tail _ ho => exact ih ho

/-- A marked buffer keeps its contents. -/
theorem after_keep {ops : List (HloOp τ sig Val)} {L : List (List (Ref sig .tc) × Ref sig .tc)} (h : Follows ops L) :
    ∀ {m : Nat}, fresh m L = true → ∀ (r : Ref sig .tc), m.testBit (key r) = true → ∀ V : Valuation τ sig Val,
      after ops V (at' r) = V (at' r) := by
  induction h with
  | nil => intros; rfl
  | @cons o e ops L ho _ ih =>
    intro m hm r hr V
    obtain ⟨ins, out⟩ := e
    simp only [fresh, Bool.and_eq_true, Bool.not_eq_true'] at hm
    have hne : r ≠ out := fun he => by
      subst he; rw [testBit_foldl ins m hr] at hm; exact absurd hm.1 (by decide)
    rw [after_cons, ih hm.2 r (by rw [testBit_mark, testBit_foldl ins m hr, Bool.true_or])]
    exact o.result_of_not_mem V (by rw [ho.writes, Finset.mem_singleton]; exact devRef_ne_of_ne hne)

/-- The contents at the end are unchanged by running any of the operations again. -/
theorem after_fixed {ops : List (HloOp τ sig Val)} {L : List (List (Ref sig .tc) × Ref sig .tc)} (h : Follows ops L) :
    ∀ {m : Nat}, fresh m L = true → ∀ V : Valuation τ sig Val, ∀ o ∈ ops, o.result (after ops V) = after ops V := by
  induction h with
  | nil => intro _ _ _ o ho; cases ho
  | @cons o e ops L ho hL ih =>
    intro m hm V o' ho'
    obtain ⟨ins, out⟩ := e
    simp only [fresh, Bool.and_eq_true, Bool.not_eq_true'] at hm
    rw [after_cons]
    cases ho' with
    | tail _ h => exact ih hm.2 _ o' h
    | head =>
      funext d
      by_cases hd : d ∈ o.writes
      · rw [ho.writes, Finset.mem_singleton] at hd
        subst hd
        rw [after_keep hL hm.2 out (by rw [testBit_mark]; simp)]
        refine ho.congr _ _ fun r hr => ?_
        have hb := testBit_foldl_mem ins m r hr
        rw [after_keep hL hm.2 r (by rw [testBit_mark, hb, Bool.true_or])]
        refine o.result_of_not_mem V ?_
        rw [ho.writes, Finset.mem_singleton]
        refine devRef_ne_of_ne fun he => ?_
        subst he; rw [hb] at hm; exact absurd hm.1 (by decide)
      · exact o.result_of_not_mem _ hd

/-- A straight program is the line of some operations that follow its list. -/
theorem Straight.ops {p : Prog (TpuEff nD τ sig Val Λ .tc) PUnit} {L : List (List (Ref sig .tc) × Ref sig .tc)}
    (h : Straight p L) : ∃ ops : List (HloOp τ sig Val), p = seq ops ∧ Follows ops L := by
  induction h with
  | nil => exact ⟨[], rfl, .nil⟩
  | @op o ins out h => exact ⟨[o], rfl, .cons h .nil⟩
  | @bind p k L M _ _ ih₁ ih₂ =>
    obtain ⟨a, ha, ha'⟩ := ih₁
    obtain ⟨b, hb, hb'⟩ := ih₂
    refine ⟨a ++ b, ?_, List.rel_append ha' hb'⟩
    rw [seq_append, ha, ← hb]

/-- What one step asks of the contents `W`: an operation begun leaves `W` as it is. -/
def StepSolves (W : Valuation τ sig Val) {β : Type} : TpuEff nD τ sig Val Λ (.tc : Proc τ) β → (β → Prop) → Prop
  | .hloBegin _ o, K => o.result W = W ∧ K ⟨⟩
  | .hloEnd _ _, K => K fun b => W b.1
  | _, _ => False

/-- Contents `W` solve the equation of every operation of the program. -/
def Solves (W : Valuation τ sig Val) {α : Type} : Prog (TpuEff nD τ sig Val Λ (.tc : Proc τ)) α → Prop
  | .ret _ => True
  | .op e k => StepSolves W e fun x => Solves W (k x)

/-- A solved step has an outcome, and what is asked of the rest may be replaced by anything that follows from it. -/
theorem StepSolves.imp {W : Valuation τ sig Val} {β : Type} {e : TpuEff nD τ sig Val Λ (.tc : Proc τ) β} {K : β → Prop}
    (h : StepSolves W e K) : ∃ x, K x ∧ ∀ K' : β → Prop, (∀ x, K x → K' x) → StepSolves W e K' := by
  cases e <;> first | exact h.elim | skip
  · exact ⟨⟨⟩, h.2, fun K' hK => ⟨h.1, hK _ h.2⟩⟩
  · exact ⟨_, h, fun K' hK => hK _ h⟩

/-- Solving a program followed by another is solving the two. -/
theorem Solves.bind {W : Valuation τ sig Val} {α β : Type} {p : Prog (TpuEff nD τ sig Val Λ (.tc : Proc τ)) α} :
    ∀ {k : α → Prog (TpuEff nD τ sig Val Λ (.tc : Proc τ)) β}, Solves W (p >>= k) → Solves W p ∧ ∃ a, Solves W (k a) := by
  induction p with
  | ret a => exact fun h => ⟨trivial, a, h⟩
  | op e c ih =>
    intro k h
    obtain ⟨x, hx, hK⟩ := StepSolves.imp (e := e) (K := fun x => Solves W (c x >>= k)) h
    exact ⟨hK (fun x => Solves W (c x)) fun x hx => (ih x hx).1, (ih x hx).2⟩

/-- The first part of a program solved, and the rest. -/
theorem Solves.both {W : Valuation τ sig Val} {p : Prog (TpuEff nD τ sig Val Λ (.tc : Proc τ)) PUnit}
    {k : PUnit → Prog (TpuEff nD τ sig Val Λ (.tc : Proc τ)) PUnit} (h : Solves W (p >>= k)) : Solves W p ∧ Solves W (k ⟨⟩) :=
  ⟨h.bind.1, h.bind.2.choose_spec⟩

/-- An operation solved leaves the contents as they are. -/
theorem Solves.fix {W : Valuation τ sig Val} {o : HloOp τ sig Val}
    (h : Solves W (hlo rfl o fun _ => .ret (⟨⟩ : PUnit) : Prog (TpuEff nD τ sig Val Λ (.tc : Proc τ)) PUnit)) : o.result W = W := h.1

/-- Contents that no operation of a sequence changes solve the sequence. -/
theorem solves_seq {W : Valuation τ sig Val} : ∀ {ops : List (HloOp τ sig Val)}, (∀ o ∈ ops, o.result W = W) →
    Solves W (seq ops : Prog (TpuEff nD τ sig Val Λ (.tc : Proc τ)) PUnit)
  | [], _ => trivial
  | o :: _, h => ⟨h o (by simp), solves_seq fun o' ho => h o' (by simp [ho])⟩

/-- The run of a straight program whose operations each write a buffer not touched before: it ends, its final
    contents solve every operation's equation, and the marked buffers keep theirs. -/
theorem run (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    {L : Dev nD → List (List (Ref sig .tc) × Ref sig .tc)} (hL : ∀ d, Straight (main d) (L d)) {m0 : Nat} (hf : ∀ d, fresh m0 (L d) = true)
    (m : (ℓ : Loc nD τ sig) → Buf Val ℓ) (ρ : Dev nD → PrngReg) :
    θ_run defs (onTc (τ := τ) main) ⟨m, fun _ => 0, ρ⟩ fun r =>
      ∀ d : Dev nD, ∃ W : Valuation τ sig Val, Solves W (main d)
        ∧ (∀ b : Ref sig .tc, r.2.mem ((d.tc : Thread nD τ).loc b) = W (at' b))
        ∧ ∀ b : Ref sig .tc, m0.testBit (key b) = true → W (at' b) = m ((d.tc : Thread nD τ).loc b) := by
  choose ops hm hops using fun d => (hL d).ops
  refine (θ_run defs _ _).mono (fun _ h d => ⟨after (ops d) (launchContents m d), ?_, h d, ?_⟩)
    (run_seq hR hC defs main ops hm (fun d => ?_) m ρ fun d o ho => ?_)
  · rw [hm d]
    exact solves_seq (after_fixed (hops d) (hf d) _)
  · exact fun b hb => after_keep (hops d) (hf d) b hb _
  · rw [List.forall_iff_forall_mem]
    intro o ho
    obtain ⟨e, he⟩ := mem_follows (hops d) ho
    exact he.sub
  · obtain ⟨e, he⟩ := mem_follows (hops d) ho
    exact he.fresh

end Line
-- ==== Proof.RefRun.lean ====
module

public import proofs.«01_k».proof.Proof.Gen.ReferenceIdeal
public import proofs.«01_k».proof.Proof.Line
public import Idealize.ShloMosaic.Lib.Quiescent

/-! The reference's run: it ends, and its final contents solve the equation of every one of its operations. -/

@[expose] public section

noncomputable section

namespace Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
set_option maxHeartbeats 40000000 in
/-- The reference runs one operation after the other, and no operation writes a buffer an earlier one, or it
    itself, reads or writes, nor one of the eight arguments. -/
theorem straight (c : Dev nD) : ∃ L, Line.Straight (main (F := F) c) L ∧ Line.fresh 255 L = true := by
  constructor
  constructor
  · rw [main, main_part0, main_part1]
    repeat' first
      | with_reducible apply Line.Straight.bind
      | with_reducible exact Line.Straight.op (Line.plain_unary _ _ _)
      | with_reducible exact Line.Straight.op (Line.plain_binary _ _ _ _)
      | with_reducible exact Line.Straight.op (Line.plain_nullary _ _)
      | with_reducible exact Line.Straight.op (Line.plain_quaternary _ _ _ _ _ _)
      | with_reducible exact Line.Straight.op (Line.plain_reshape _ _ _ _)
      | with_reducible exact Line.Straight.op (Line.plain_nary _ _ _ _)
      | with_reducible exact Line.Straight.nil
      | rw [fn_relu.body]
      | rw [fn_gumbel.body]
      | rw [fn_uniform.body]
      | rw [fn_threefry2x32.body]
      | rw [fn_threefry2x32.body_part0]
      | rw [fn_threefry2x32.body_part1]
      | rw [fn_threefry2x32.body_part2]
      | rw [fn_threefry2x32.body_part3]
      | rw [fn_argmax.body]
      | rw [fn_one_hot.body]
      | rw [fn_relu_0.body]
      | rw [fn_gumbel_1.body]
      | rw [fn_uniform_2.body]
      | rw [fn_threefry2x32_3.body]
      | rw [fn_threefry2x32_3.body_part0]
      | rw [fn_threefry2x32_3.body_part1]
      | rw [fn_threefry2x32_3.body_part2]
      | rw [fn_threefry2x32_3.body_part3]
      | rw [fn_argmax_4.body]
      | rw [fn_one_hot_5.body]
  · decide +kernel

/-- The reference runs; at the end every semaphore counter is zero, and there are contents `W` of the device's
    buffers that solve all its operations' equations, are what the buffers hold, and keep the eight arguments. -/
theorem run (m : (ℓ : Loc nD τ sig) → Buf (Elt F) ℓ) (ρ : Dev nD → PrngReg) :
    θ_run (defs (F := F)) (onTc (τ := τ) (main (F := F))) ⟨m, fun _ => 0, ρ⟩ fun r => r.2.sem = (fun _ => 0) ∧
      ∀ d : Dev nD, ∃ W : Valuation τ sig (Elt F), Line.Solves W (main (F := F) d)
        ∧ (∀ b : Idealize.ShloMosaic.Ref sig .tc, r.2.mem ((d.tc : Thread nD τ).loc b) = W (Line.at' b))
        ∧ ∀ b : Idealize.ShloMosaic.Ref sig .tc, (255).testBit (Line.key b) = true → W (Line.at' b) = m ((d.tc : Thread nD τ).loc b) := by
  choose L hL hf using straight (F := F)
  exact (θ_run _ _ _).mono (fun r h => ⟨sem_eq_zero_of_no_sems (by decide) _, h⟩)
    (Line.run (by decide) (by decide) (defs (F := F)) main hL hf m ρ)

/-- The reference runs, its arguments unchanged and every semaphore counter zero at the end. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 := by
  refine (θ_run _ _ _).mono (fun r h => ⟨fun c => ?_, h.1⟩) (run m ρ)
  obtain ⟨W, _, hW, hk⟩ := h.2 c
  refine ⟨?_, ?_, ?_, ?_, ?_, ?_, ?_, ?_⟩ <;> exact (hW _).trans (hk _ (by decide))

end Ref
-- ==== Proof.Threefry.lean ====
module

public import Idealize.ShloMosaic.PureOps.Vector

/-! The counter-based random generator both programs draw their bits with, as plain arithmetic on 32-bit words. -/

@[expose] public section

namespace Threefry

open Idealize.ShloMosaic

/-- One mixing round: add the second word to the first, rotate the second by `s` and combine it with the sum. -/
def round (s : Nat) (p : BitVec 32 × BitVec 32) : BitVec 32 × BitVec 32 :=
  (p.1 + p.2, (p.2 <<< s ||| p.2 >>> (32 - s)) ^^^ (p.1 + p.2))

/-- Four rounds. -/
def four (a b c d : Nat) (p : BitVec 32 × BitVec 32) : BitVec 32 × BitVec 32 := round d (round c (round b (round a p)))

/-- Adding two key words and the number `i` of the injection. -/
def inject (a b i : BitVec 32) (p : BitVec 32 × BitVec 32) : BitVec 32 × BitVec 32 := (p.1 + a, p.2 + b + i)

/-- The third key word. -/
def third (k0 k1 : BitVec 32) : BitVec 32 := (k0 ^^^ k1) ^^^ 466688986#32

/-- The two words drawn for the counter `(c0, c1)` under the key `(k0, k1)`. -/
def hash (k0 k1 c0 c1 : BitVec 32) : BitVec 32 × BitVec 32 :=
  inject (third k0 k1) k0 5#32 <| four 13 15 26 6 <|
  inject k1 (third k0 k1) 4#32 <| four 17 29 16 24 <|
  inject k0 k1 3#32 <| four 13 15 26 6 <|
  inject (third k0 k1) k0 2#32 <| four 17 29 16 24 <|
  inject k1 (third k0 k1) 1#32 <| four 13 15 26 6 (c0 + k0, c1 + k1)

/-- The 23 random bits drawn for the counter `n` under the seed. -/
def bits (seed n : BitVec 32) : BitVec 32 := ((hash 0#32 seed 0#32 n).1 ^^^ (hash 0#32 seed 0#32 n).2) >>> 9

end Threefry
-- ==== Proof.KernelBits.lean ====
module

public import proofs.«01_k».proof.Proof.Gen.KernelIdeal.Value
public import proofs.«01_k».proof.Proof.Threefry

/-! The random bits the kernel's blocks draw: the generator's word for each position. -/

set_option maxRecDepth 100000

@[expose] public section

noncomputable section

namespace KernelBits

open Cert.KernelIdeal Cert.KernelIdeal.Gen Idealize.ShloMosaic

/-- One round in the kernel's operations. -/
def kround (s t : BitVec 32) (p : BitVec 32 × BitVec 32) : BitVec 32 × BitVec 32 :=
  (IntOp.addi p.1 p.2, IntOp.xori (IntOp.ori (IntOp.shli .vector p.2 s) (IntOp.shrui .vector p.2 t)) (IntOp.addi p.1 p.2))

/-- The kernel's round is the generator's. -/
theorem kround_eq (s : BitVec 32) (h : s.toNat < 32) (h' : 0 < s.toNat) (p : BitVec 32 × BitVec 32) :
    kround s (32#32 - s) p = Threefry.round s.toNat p := by
  have e : (32#32 - s).toNat = 32 - s.toNat := by bv_omega
  have l : 32 - s.toNat < 32 := by omega
  simp [kround, Threefry.round, IntOp.addi, IntOp.xori, IntOp.ori, IntOp.shli, IntOp.shrui, h, e, l]

/-- Adding a word to each of the two. -/
def kinject (a b : BitVec 32) (p : BitVec 32 × BitVec 32) : BitVec 32 × BitVec 32 := (IntOp.addi p.1 a, IntOp.addi p.2 b)

/-- Adding a word to the second of the two. -/
def kinject2 (b : BitVec 32) (p : BitVec 32 × BitVec 32) : BitVec 32 × BitVec 32 := (p.1, IntOp.addi p.2 b)

/-- The kernel's words after the first round from the word `x` (the first word starts at zero) up to the end. -/
def khash (k s3 t t1 t4 x : BitVec 32) : BitVec 32 × BitVec 32 :=
  kinject t 5#32 <| kround 6#32 26#32 <| kround 26#32 6#32 <| kround 15#32 17#32 <| kround 13#32 19#32 <|
  kinject k t4 <| kround 24#32 8#32 <| kround 16#32 16#32 <| kround 29#32 3#32 <| kround 17#32 15#32 <|
  kinject2 s3 <| kround 6#32 26#32 <| kround 26#32 6#32 <| kround 15#32 17#32 <| kround 13#32 19#32 <|
  kinject t 2#32 <| kround 24#32 8#32 <| kround 16#32 16#32 <| kround 29#32 3#32 <| kround 17#32 15#32 <|
  kinject k t1 <| kround 6#32 26#32 <| kround 26#32 6#32 <| kround 15#32 17#32 <|
  (x, IntOp.xori (IntOp.ori (IntOp.shli .vector x 13#32) (IntOp.shrui .vector x 19#32)) x)

/-- The kernel's bits from the two words. -/
def kbits (p : BitVec 32 × BitVec 32) : BitVec 32 := IntOp.shrui .vector (IntOp.xori p.1 p.2) 9#32

section
variable {a b s t : BitVec 32} {p : BitVec 32 × BitVec 32}

/-- One mixing step of the kernel is one step of the hash. -/
theorem step (h : (a, b) = p) :
    (IntOp.addi a b, IntOp.xori (IntOp.ori (IntOp.shli .vector b s) (IntOp.shrui .vector b t)) (IntOp.addi a b)) = kround s t p := by
  subst h; rfl

/-- Adding the key words to both halves. -/
theorem stepInject (h : (a, b) = p) : (IntOp.addi a s, IntOp.addi b t) = kinject s t p := by subst h; rfl

/-- Adding a key word to the second half only. -/
theorem stepInject2 (h : (a, b) = p) : (a, IntOp.addi b t) = kinject2 t p := by subst h; rfl

/-- The two halves joined, the upper 23 bits kept. -/
theorem stepBits (h : (a, b) = p) : IntOp.shrui .vector (IntOp.xori a b) 9#32 = kbits p := by subst h; rfl

/-- Equal keys give equal maxima. -/
theorem stepMax {c : BitVec 32} (h : a = b) : IntOp.maxsi c a = IntOp.maxsi c b := by subst h; rfl
end

variable {F : FTy → Type} [FloatOps F]
variable (i : grid0.Coords) (x0 x1 : Vec F S4x2048x128 .f32) (x2 : Vec F S4x128x128 .f32) (x3 : Vec F S6x128x128 .f32) (x4 : Vec F S1x4 .f32)

/-- The kernel's bits at counter `n` are the generator's, `x` being the counter plus the seed. -/
theorem kbits_eq (seed n x : BitVec 32) (hx : n + seed = x) :
    kbits (khash seed (seed + 3#32) (Threefry.third 0#32 seed) (Threefry.third 0#32 seed + 1#32)
      (Threefry.third 0#32 seed + 4#32) x) = Threefry.bits seed n := by
  subst hx
  have e : ∀ s t : Nat, s + t = 32 → 0 < s → 0 < t → ∀ p, kround (BitVec.ofNat 32 s) (BitVec.ofNat 32 t) p = Threefry.round s p := by
    intro s t h h1 h2 p
    have := kround_eq (BitVec.ofNat 32 s) (by simp; omega) (by simp; omega) p
    have e1 : (BitVec.ofNat 32 s).toNat = s := by simp; omega
    have e2 : 32#32 - BitVec.ofNat 32 s = BitVec.ofNat 32 t := by
      apply BitVec.eq_of_toNat_eq; simp; omega
    rwa [e1, e2] at this
  have f : (n + seed, IntOp.xori (IntOp.ori (IntOp.shli .vector (n + seed) 13#32) (IntOp.shrui .vector (n + seed) 19#32)) (n + seed))
      = Threefry.round 13 (0#32, n + seed) := by
    rw [← e 13 19 rfl (by decide) (by decide)]; simp [kround, IntOp.addi]
  unfold kbits khash Threefry.bits Threefry.hash Threefry.four
  rw [f]
  simp only [e 15 17 rfl (by decide) (by decide), e 13 19 rfl (by decide) (by decide), e 26 6 rfl (by decide) (by decide),
    e 6 26 rfl (by decide) (by decide), e 17 15 rfl (by decide) (by decide), e 29 3 rfl (by decide) (by decide),
    e 16 16 rfl (by decide) (by decide), e 24 8 rfl (by decide) (by decide)]
  have g1 : ∀ a b c : BitVec 32, ∀ p, kinject a (b + c) p = Threefry.inject a b c p := fun a b c p => by
    simp [kinject, Threefry.inject, IntOp.addi, BitVec.add_assoc]
  have g2 : ∀ a c : BitVec 32, ∀ p, kinject a c p = Threefry.inject a 0#32 c p := fun a c p => by
    simp [kinject, Threefry.inject, IntOp.addi]
  have g3 : ∀ b c : BitVec 32, ∀ p, kinject2 (b + c) p = Threefry.inject 0#32 b c p := fun b c p => by
    simp [kinject2, Threefry.inject, IntOp.addi, BitVec.add_assoc]
  simp only [g1, g3, BitVec.zero_add, BitVec.add_zero]
  simp only [g2, IntOp.shrui, IntOp.xori]
  rfl

/-- Adding the seed to the counter. -/
theorem add_key (b n m k c : BitVec 32) (h : m + k = c) : b * n + m + k = IntOp.addi (IntOp.muli b n) c := by
  subst h; simp only [IntOp.addi, IntOp.muli, BitVec.add_assoc]

attribute [local irreducible] IntOp.addi IntOp.xori IntOp.ori IntOp.shli IntOp.shrui IntOp.muli IntOp.maxsi

attribute [local irreducible] kround kinject kinject2

set_option maxHeartbeats 4000000

/-- The kernel's key of candidate 0 in the choice among 4. -/
theorem key4_0 (y : S2048x128.Idx) : k0_pay414 i x0 x1 x2 x3 x4 y = Threefry.bits 42#32 (k0_pay2 i y * 4#32 + 0#32) := by
  refine .trans (b := kbits (khash 42#32 45#32 466689008#32 466689009#32 466689012#32 (IntOp.addi (IntOp.muli (k0_pay2 i y) 4#32) 42#32))) ?_ (kbits_eq 42#32 _ _ (add_key _ _ _ _ _ rfl))
  refine stepBits ?_
  repeat (first | refine step ?_ | refine stepInject ?_ | refine stepInject2 ?_)
  rfl

/-- The kernel's key of candidate 1 in the choice among 4. -/
theorem key4_1 (y : S2048x128.Idx) : k0_pay421 i x0 x1 x2 x3 x4 y = Threefry.bits 42#32 (k0_pay2 i y * 4#32 + 1#32) := by
  refine .trans (b := kbits (khash 42#32 45#32 466689008#32 466689009#32 466689012#32 (IntOp.addi (IntOp.muli (k0_pay2 i y) 4#32) 43#32))) ?_ (kbits_eq 42#32 _ _ (add_key _ _ _ _ _ rfl))
  refine stepBits ?_
  repeat (first | refine step ?_ | refine stepInject ?_ | refine stepInject2 ?_)
  rfl

/-- The kernel's key of candidate 2 in the choice among 4. -/
theorem key4_2 (y : S2048x128.Idx) : k0_pay428 i x0 x1 x2 x3 x4 y = Threefry.bits 42#32 (k0_pay2 i y * 4#32 + 2#32) := by
  refine .trans (b := kbits (khash 42#32 45#32 466689008#32 466689009#32 466689012#32 (IntOp.addi (IntOp.muli (k0_pay2 i y) 4#32) 44#32))) ?_ (kbits_eq 42#32 _ _ (add_key _ _ _ _ _ rfl))
  refine stepBits ?_
  repeat (first | refine step ?_ | refine stepInject ?_ | refine stepInject2 ?_)
  rfl

/-- The kernel's key of candidate 0 in the choice among 6. -/
theorem key6_0 (y : S2048x128.Idx) : k0_pay449 i x0 x1 x2 x3 x4 y = Threefry.bits 43#32 (k0_pay2 i y * 6#32 + 0#32) := by
  refine .trans (b := kbits (khash 43#32 46#32 466689009#32 466689010#32 466689013#32 (IntOp.addi (IntOp.muli (k0_pay2 i y) 6#32) 43#32))) ?_ (kbits_eq 43#32 _ _ (add_key _ _ _ _ _ rfl))
  refine stepBits ?_
  repeat (first | refine step ?_ | refine stepInject ?_ | refine stepInject2 ?_)
  rfl

/-- The kernel's key of candidate 1 in the choice among 6. -/
theorem key6_1 (y : S2048x128.Idx) : k0_pay456 i x0 x1 x2 x3 x4 y = Threefry.bits 43#32 (k0_pay2 i y * 6#32 + 1#32) := by
  refine .trans (b := kbits (khash 43#32 46#32 466689009#32 466689010#32 466689013#32 (IntOp.addi (IntOp.muli (k0_pay2 i y) 6#32) 44#32))) ?_ (kbits_eq 43#32 _ _ (add_key _ _ _ _ _ rfl))
  refine stepBits ?_
  repeat (first | refine step ?_ | refine stepInject ?_ | refine stepInject2 ?_)
  rfl

/-- The kernel's key of candidate 2 in the choice among 6. -/
theorem key6_2 (y : S2048x128.Idx) : k0_pay466 i x0 x1 x2 x3 x4 y = Threefry.bits 43#32 (k0_pay2 i y * 6#32 + 2#32) := by
  refine .trans (b := kbits (khash 43#32 46#32 466689009#32 466689010#32 466689013#32 (IntOp.addi (IntOp.muli (k0_pay2 i y) 6#32) 45#32))) ?_ (kbits_eq 43#32 _ _ (add_key _ _ _ _ _ rfl))
  refine stepBits ?_
  repeat (first | refine step ?_ | refine stepInject ?_ | refine stepInject2 ?_)
  rfl

/-- The kernel's key of candidate 3 in the choice among 6. -/
theorem key6_3 (y : S2048x128.Idx) : k0_pay471 i x0 x1 x2 x3 x4 y = Threefry.bits 43#32 (k0_pay2 i y * 6#32 + 3#32) := by
  refine .trans (b := kbits (khash 43#32 46#32 466689009#32 466689010#32 466689013#32 (IntOp.addi (IntOp.muli (k0_pay2 i y) 6#32) 46#32))) ?_ (kbits_eq 43#32 _ _ (add_key _ _ _ _ _ rfl))
  refine stepBits ?_
  repeat (first | refine step ?_ | refine stepInject ?_ | refine stepInject2 ?_)
  rfl

/-- The kernel's key of candidate 4 in the choice among 6. -/
theorem key6_4 (y : S2048x128.Idx) : k0_pay479 i x0 x1 x2 x3 x4 y = Threefry.bits 43#32 (k0_pay2 i y * 6#32 + 4#32) := by
  refine .trans (b := kbits (khash 43#32 46#32 466689009#32 466689010#32 466689013#32 (IntOp.addi (IntOp.muli (k0_pay2 i y) 6#32) 47#32))) ?_ (kbits_eq 43#32 _ _ (add_key _ _ _ _ _ rfl))
  refine stepBits ?_
  repeat (first | refine step ?_ | refine stepInject ?_ | refine stepInject2 ?_)
  rfl

/-- The greatest of the 4 keys, the last of which the kernel keeps no other copy of. -/
theorem best4 (y : S2048x128.Idx) : k0_pay436 i x0 x1 x2 x3 x4 y = IntOp.maxsi (IntOp.maxsi (IntOp.maxsi (k0_pay414 i x0 x1 x2 x3 x4 y) (k0_pay421 i x0 x1 x2 x3 x4 y)) (k0_pay428 i x0 x1 x2 x3 x4 y)) (Threefry.bits 42#32 (k0_pay2 i y * 4#32 + 3#32)) := by
  refine .trans (b := IntOp.maxsi (IntOp.maxsi (IntOp.maxsi (k0_pay414 i x0 x1 x2 x3 x4 y) (k0_pay421 i x0 x1 x2 x3 x4 y)) (k0_pay428 i x0 x1 x2 x3 x4 y)) (kbits (khash 42#32 45#32 466689008#32 466689009#32 466689012#32 (IntOp.addi (IntOp.muli (k0_pay2 i y) 4#32) 45#32)))) ?_ (congrArg _ (kbits_eq 42#32 _ _ (add_key _ _ _ _ _ rfl)))
  refine stepMax ?_
  refine stepBits ?_
  repeat (first | refine step ?_ | refine stepInject ?_ | refine stepInject2 ?_)
  rfl

/-- The greatest of the 6 keys, the last of which the kernel keeps no other copy of. -/
theorem best6 (y : S2048x128.Idx) : k0_pay485 i x0 x1 x2 x3 x4 y = IntOp.maxsi (IntOp.maxsi (IntOp.maxsi (IntOp.maxsi (IntOp.maxsi (k0_pay449 i x0 x1 x2 x3 x4 y) (k0_pay456 i x0 x1 x2 x3 x4 y)) (k0_pay466 i x0 x1 x2 x3 x4 y)) (k0_pay471 i x0 x1 x2 x3 x4 y)) (k0_pay479 i x0 x1 x2 x3 x4 y)) (Threefry.bits 43#32 (k0_pay2 i y * 6#32 + 5#32)) := by
  refine .trans (b := IntOp.maxsi (IntOp.maxsi (IntOp.maxsi (IntOp.maxsi (IntOp.maxsi (k0_pay449 i x0 x1 x2 x3 x4 y) (k0_pay456 i x0 x1 x2 x3 x4 y)) (k0_pay466 i x0 x1 x2 x3 x4 y)) (k0_pay471 i x0 x1 x2 x3 x4 y)) (k0_pay479 i x0 x1 x2 x3 x4 y)) (kbits (khash 43#32 46#32 466689009#32 466689010#32 466689013#32 (IntOp.addi (IntOp.muli (k0_pay2 i y) 6#32) 48#32)))) ?_ (congrArg _ (kbits_eq 43#32 _ _ (add_key _ _ _ _ _ rfl)))
  refine stepMax ?_
  refine stepBits ?_
  repeat (first | refine step ?_ | refine stepInject ?_ | refine stepInject2 ?_)
  rfl

end KernelBits
-- ==== Proof.Spec.lean ====
module

public import proofs.«01_k».proof.Proof.Threefry
public import Idealize.ShloMosaic.Lib.Pointwise

/-! What both programs compute, as plain functions of the arguments' entries.

At each position of the result a candidate is chosen among four (or six): the first whose random key is the
greatest. A candidate's value is its matrix product cut off below at zero. -/

@[expose] public section

noncomputable section

namespace Spec

open Idealize.ShloMosaic

/-- The random key of candidate `m` among `n` at position `p`. -/
def key (seed : BitVec 32) (n p m : Nat) : BitVec 32 := Threefry.bits seed (BitVec.ofNat 32 (p * n + m))

/-- The value of the first of four candidates whose key is the greatest. -/
def pick4 (k : Fin 4 → BitVec 32) (v : Fin 4 → EReal) : EReal :=
  if k 0 = IntOp.maxsi (IntOp.maxsi (IntOp.maxsi (k 0) (k 1)) (k 2)) (k 3) then v 0
  else if k 1 = IntOp.maxsi (IntOp.maxsi (IntOp.maxsi (k 0) (k 1)) (k 2)) (k 3) then v 1
  else if k 2 = IntOp.maxsi (IntOp.maxsi (IntOp.maxsi (k 0) (k 1)) (k 2)) (k 3) then v 2
  else v 3

/-- The greatest of six keys. -/
def best6 (k : Fin 6 → BitVec 32) : BitVec 32 :=
  IntOp.maxsi (IntOp.maxsi (IntOp.maxsi (IntOp.maxsi (IntOp.maxsi (k 0) (k 1)) (k 2)) (k 3)) (k 4)) (k 5)

/-- The value of the first of six candidates whose key is the greatest. -/
def pick6 (k : Fin 6 → BitVec 32) (v : Fin 6 → EReal) : EReal :=
  if k 0 = best6 k then v 0
  else if k 1 = best6 k then v 1
  else if k 2 = best6 k then v 2
  else if k 3 = best6 k then v 3
  else if k 4 = best6 k then v 4
  else v 5

variable (X1 X2 : Vec Ideal (⟨3, ![4, 16384, 128]⟩ : Shape) .f32) (W1 : Vec Ideal (⟨3, ![4, 128, 128]⟩ : Shape) .f32)
  (W2 : Vec Ideal (⟨3, ![6, 128, 128]⟩ : Shape) .f32) (w : Fin 4 → EReal)

/-- The second result: the chosen one of the four first candidates. -/
def out1 (r : Fin 16384) (j : Fin 128) : EReal :=
  pick4 (fun m => key 42#32 4 (r.val * 128 + j.val) m.val) fun m => max (∑ x, X1 (ix3 m r x) * W1 (ix3 m x j)) 0

/-- The third result: the weighted sum of the second outputs. -/
def ws (r : Fin 16384) (j : Fin 128) : EReal :=
  X2 (ix3 0 r j) * w 0 + X2 (ix3 1 r j) * w 1 + X2 (ix3 2 r j) * w 2 + X2 (ix3 3 r j) * w 3

/-- The first result: the chosen one of the six second candidates. -/
def out (r : Fin 16384) (j : Fin 128) : EReal :=
  pick6 (fun m => key 43#32 6 (r.val * 128 + j.val) m.val)
    ![max (∑ x, X2 (ix3 0 r x) * W2 (ix3 0 x j)) 0, max (∑ x, X2 (ix3 1 r x) * W2 (ix3 1 x j)) 0,
      max (∑ x, X2 (ix3 2 r x) * W2 (ix3 2 x j)) 0, max (∑ x, X2 (ix3 3 r x) * W2 (ix3 3 x j)) 0,
      max (∑ x, out1 X1 W1 r x * W2 (ix3 4 x j)) 0, max (∑ x, ws X2 w r x * W2 (ix3 5 x j)) 0]

end Spec
-- ==== Proof.KernelBlock.lean ====
module

public import proofs.«01_k».proof.Proof.KernelBits
public import proofs.«01_k».proof.Proof.Spec
public import Idealize.ShloMosaic.Lib.Pipeline.ValueKit

/-! What one block of the kernel computes, entry by entry. -/

set_option maxRecDepth 100000

@[expose] public section

noncomputable section

namespace KernelBlock

open Cert.KernelIdeal Cert.KernelIdeal.Gen Idealize.ShloMosaic

/-- The position counted by the kernel at entry `(r, j)` of block `i`. -/
theorem pos (i : grid0.Coords) (r : Fin 2048) (j : Fin 128) :
    k0_pay2 i (ix2 r j) = BitVec.ofNat 32 (((i 0).val * 2048 + r.val) * 128 + j.val) := by
  pointwise [k0_pay2]
  simp only [IntOp.addi, IntOp.muli, Scalar.muli, ← BitVec.ofNat_add, ← BitVec.ofNat_mul]

/-- The counter of candidate `m`. -/
theorem key_eq (seed : BitVec 32) (n p m : Nat) :
    Threefry.bits seed (BitVec.ofNat 32 p * BitVec.ofNat 32 n + BitVec.ofNat 32 m) = Spec.key seed n p m := by
  rw [Spec.key, BitVec.ofNat_add, BitVec.ofNat_mul]

/-- Choosing by comparison of words. -/
theorem select_eq (a b : BitVec 32) (x y : EReal) : Scalar.select (IntOp.cmpi .eq a b) x y = if a = b then x else y := by
  by_cases h : a = b
  · simp [IntOp.cmpi, Scalar.select, h]
  · have e : (a == b) = false := by simpa using h
    simp [IntOp.cmpi, Scalar.select, h, e]

variable (i : grid0.Coords) (x0 x1 : Vec Ideal S4x2048x128 .f32) (x2 : Vec Ideal S4x128x128 .f32) (x3 : Vec Ideal S6x128x128 .f32)
  (x4 : Vec Ideal S1x4 .f32) (r : Fin 2048) (j : Fin 128)

/-- The second result's block. -/
theorem out1 : out0_6 i x0 x1 x2 x3 x4 (ix2 r j)
    = Spec.pick4 (fun m => Spec.key 42#32 4 (((i 0).val * 2048 + r.val) * 128 + j.val) m.val)
        fun m => max (∑ x, x0 (ix3 m r x) * x2 (ix3 m x j)) 0 := by
  unfold out0_6
  frame_out
  pointwise [k0_pay157, k0_pay437, k0_pay438, k0_pay155, k0_pay156]
  simp only [select_eq, KernelBits.best4, KernelBits.key4_0, KernelBits.key4_1, KernelBits.key4_2, pos, key_eq]
  rfl

/-- The third result's block. -/
theorem ws : out0_7 i x0 x1 x2 x3 x4 (ix2 r j) = x1 (ix3 0 r j) * x4 (ix2 0 0) + x1 (ix3 1 r j) * x4 (ix2 0 1)
    + x1 (ix3 2 r j) * x4 (ix2 0 2) + x1 (ix3 3 r j) * x4 (ix2 0 3) := by
  unfold out0_7
  frame_out
  pointwise [k0_pay439, k0_pay440, k0_pay160, k0_pay158, k0_pay159]

/-- The choice among six, over the keys, the greatest of them, and the values the last two candidates multiply. -/
theorem pay1 (k0 k1 k2 k3 k4 b : IVec S2048x128 32) (o1 o2 : FVec Ideal S2048x128 .f32)
    (a0 a1 a2 a3 : Vec Ideal S1x2048x128 .f32) (b0 b1 b2 b3 b4 b5 : Vec Ideal S1x128x128 .f32) :
    k0_pay1 k0 k1 k2 k3 b (k0_pay403 a0 b0) (k0_pay404 a1 b1) (k0_pay405 a2 b2) (k0_pay406 a3 b3) (k0_pay407 o1 o2 k4 b b4 b5) (ix2 r j)
    = if k0 (ix2 r j) = b (ix2 r j) then max (∑ x, a0 (ix3 0 r x) * b0 (ix3 0 x j)) 0
      else if k1 (ix2 r j) = b (ix2 r j) then max (∑ x, a1 (ix3 0 r x) * b1 (ix3 0 x j)) 0
      else if k2 (ix2 r j) = b (ix2 r j) then max (∑ x, a2 (ix3 0 r x) * b2 (ix3 0 x j)) 0
      else if k3 (ix2 r j) = b (ix2 r j) then max (∑ x, a3 (ix3 0 r x) * b3 (ix3 0 x j)) 0
      else if k4 (ix2 r j) = b (ix2 r j) then max (∑ x, o1 (ix2 r x) * b4 (ix3 0 x j)) 0
      else max (∑ x, o2 (ix2 r x) * b5 (ix3 0 x j)) 0 := by
  pointwise [k0_pay1, k0_pay403, k0_pay404, k0_pay405, k0_pay406, k0_pay407]
  simp only [select_eq]

/-- The second result's block as the body's stored value. -/
theorem out1_eq : out0_6 i x0 x1 x2 x3 x4 = k0_pay157 (k0_pay414 i x0 x1 x2 x3 x4) (k0_pay421 i x0 x1 x2 x3 x4) (k0_pay428 i x0 x1 x2 x3 x4) (k0_pay436 i x0 x1 x2 x3 x4) (k0_pay437 i x0 x1 x2 x3 x4) (k0_pay438 i x0 x1 x2 x3 x4) (View.ld x0 r0_4) (View.ld x2 r0_5) (View.ld x0 r0_6) (View.ld x2 r0_7) := by
  unfold out0_6
  frame_out

/-- The third result's block as the body's stored value. -/
theorem ws_eq : out0_7 i x0 x1 x2 x3 x4 = k0_pay160 (k0_pay439 i x0 x1 x2 x3 x4) (k0_pay440 i x0 x1 x2 x3 x4) (View.ld x4 r0_10) (View.ld x1 r0_4) (View.ld x4 r0_11) (View.ld x1 r0_6) (View.ld x4 r0_12) := by
  unfold out0_7
  frame_out

/-- The first result's block. -/
theorem out : out0_5 i x0 x1 x2 x3 x4 (ix2 r j)
    = Spec.pick6 (fun m => Spec.key 43#32 6 (((i 0).val * 2048 + r.val) * 128 + j.val) m.val)
      ![max (∑ x, x1 (ix3 0 r x) * x3 (ix3 0 x j)) 0, max (∑ x, x1 (ix3 1 r x) * x3 (ix3 1 x j)) 0,
        max (∑ x, x1 (ix3 2 r x) * x3 (ix3 2 x j)) 0, max (∑ x, x1 (ix3 3 r x) * x3 (ix3 3 x j)) 0,
        max (∑ x, out0_6 i x0 x1 x2 x3 x4 (ix2 r x) * x3 (ix3 4 x j)) 0,
        max (∑ x, out0_7 i x0 x1 x2 x3 x4 (ix2 r x) * x3 (ix3 5 x j)) 0] := by
  generalize e6 : out0_6 i x0 x1 x2 x3 x4 = o1
  generalize e7 : out0_7 i x0 x1 x2 x3 x4 = o2
  unfold out0_5
  rw [← out1_eq, ← ws_eq, e6, e7]
  generalize hR : Spec.pick6 _ _ = R
  frame_out
  rw [pay1]
  simp only [KernelBits.best6, KernelBits.key6_0, KernelBits.key6_1, KernelBits.key6_2, KernelBits.key6_3, KernelBits.key6_4, pos, key_eq]
  pointwise
  rw [← hR]
  rfl

end KernelBlock
-- ==== Proof.KernelValue.lean ====
module

public import proofs.«01_k».proof.Proof.KernelBlock

/-! What the kernel's three result arrays hold after its run. -/

set_option maxRecDepth 100000

@[expose] public section

noncomputable section

namespace KernelValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The weight of each second output: its coefficient's share of the sum. -/
def weight (a w : Vec Ideal S4 .f32) (k : Fin 4) : EReal :=
  FloatOps.divf (F := Ideal) (φ := .f32) (w (ix1 k) * a (ix1 k)) (∑ x, w (ix1 x) * a (ix1 x))

/-- The block of the first outputs at each grid point. -/
theorem index0 : ∀ t : Fin cfg0.N, win0_0.index t = ![0, (grid0.coords t 0).val, 0] := by decide +kernel
/-- The block of the second outputs at each grid point. -/
theorem index1 : ∀ t : Fin cfg0.N, win0_1.index t = ![0, (grid0.coords t 0).val, 0] := by decide +kernel
/-- The block of the first matrices at each grid point. -/
theorem index2 : ∀ t : Fin cfg0.N, win0_2.index t = ![0, 0, 0] := by decide +kernel
/-- The block of the second matrices at each grid point. -/
theorem index3 : ∀ t : Fin cfg0.N, win0_3.index t = ![0, 0, 0] := by decide +kernel
/-- The block of the weights at each grid point. -/
theorem index4 : ∀ t : Fin cfg0.N, win0_4.index t = ![0, 0] := by decide +kernel
/-- The block of the first result at each grid point. -/
theorem index5 : ∀ t : Fin cfg0.N, win0_5.index t = ![(grid0.coords t 0).val, 0] := by decide +kernel
/-- The block of the second result at each grid point. -/
theorem index6 : ∀ t : Fin cfg0.N, win0_6.index t = ![(grid0.coords t 0).val, 0] := by decide +kernel
/-- The block of the third result at each grid point. -/
theorem index7 : ∀ t : Fin cfg0.N, win0_7.index t = ![(grid0.coords t 0).val, 0] := by decide +kernel

/-- A row of a block is a row of the array. -/
theorem row_lt (t : Fin cfg0.N) (r : Fin 2048) : (grid0.coords t 0).val * 2048 + r.val < 16384 := by
  have : (grid0.coords t 0).val < 8 := (grid0.coords t 0).isLt
  omega

/-- The array's row that row `r` of block `t` is. -/
def row (t : Fin cfg0.N) (r : Fin 2048) : Fin 16384 := ⟨(grid0.coords t 0).val * 2048 + r.val, row_lt t r⟩

/-- The first input's block. -/
theorem iblk0 (t : Fin cfg0.N) (a : Fin 4) (r : Fin 2048) (x : Fin 128) :
    iblk m c 0 t (ix3 a r x) = m ((c.tc : Thread nD τ).loc main_arg0) (ix3 a (row t r) x) := by
  rw [← V_main_arg0 m c]
  show V m c main_arg0 (((cfg0.win 0).blk t).view.emb (ix3 a r x)) = _
  congr 1
  funext d
  apply Fin.ext
  fin_cases d
  all_goals blk_simp [index0]
  all_goals simp [row, ix3]

/-- The second input's block. -/
theorem iblk1 (t : Fin cfg0.N) (a : Fin 4) (r : Fin 2048) (x : Fin 128) :
    iblk m c 1 t (ix3 a r x) = m ((c.tc : Thread nD τ).loc main_arg1) (ix3 a (row t r) x) := by
  rw [← V_main_arg1 m c]
  show V m c main_arg1 (((cfg0.win 1).blk t).view.emb (ix3 a r x)) = _
  congr 1
  funext d
  apply Fin.ext
  fin_cases d
  all_goals blk_simp [index1]
  all_goals simp [row, ix3]

/-- The first matrices' block. -/
theorem iblk2 (t : Fin cfg0.N) (a : Fin 4) (r : Fin 128) (x : Fin 128) :
    iblk m c 2 t (ix3 a r x) = m ((c.tc : Thread nD τ).loc main_arg3) (ix3 a r x) := by
  rw [← V_main_arg3 m c]
  show V m c main_arg3 (((cfg0.win 2).blk t).view.emb (ix3 a r x)) = _
  congr 1
  funext d
  apply Fin.ext
  fin_cases d
  all_goals blk_simp [index2]
  all_goals simp [row, ix3]

/-- The second matrices' block. -/
theorem iblk3 (t : Fin cfg0.N) (a : Fin 6) (r : Fin 128) (x : Fin 128) :
    iblk m c 3 t (ix3 a r x) = m ((c.tc : Thread nD τ).loc main_arg5) (ix3 a r x) := by
  rw [← V_main_arg5 m c]
  show V m c main_arg5 (((cfg0.win 3).blk t).view.emb (ix3 a r x)) = _
  congr 1
  funext d
  apply Fin.ext
  fin_cases d
  all_goals blk_simp [index3]
  all_goals simp [row, ix3]

/-- The weights as the region finds them. -/
theorem entry_w (k : Fin 4) : V m c (Pipeline.arrRef spec0 4) (ix2 0 k)
    = weight (m ((c.tc : Thread nD τ).loc main_arg2)) (m ((c.tc : Thread nD τ).loc main_arg7)) k := by
  unfold_abbrev_sides
  after_results
  simp only [StableHlo.TRef.ofBuf_toBuf]
  have e : ∀ (W A : Vec Ideal S4 .f32) (h : S4.ShapeCasts S1x4), shapeCast S1x4 (Host.divf (mulf W A : FVec Ideal S4 .f32)
      (broadcastInDim S4 ![] bcast_S_S4 (Host.reduceAdd (mulf W A) (constant S_ FTy.f32 0#32) reducesTo_S4_S_d0 h_S_) : FVec Ideal S4 .f32)
        : FVec Ideal S4 .f32) h (ix2 0 k) = weight A W k := by
    intro W A h
    pointwise [weight]
  exact e (m (c, Proc.tc.devRef main_arg7)) (m (c, Proc.tc.devRef main_arg2)) _

/-- The weights' block. -/
theorem iblk4 (t : Fin cfg0.N) (k : Fin 4) : iblk m c 4 t (ix2 0 k)
    = weight (m ((c.tc : Thread nD τ).loc main_arg2)) (m ((c.tc : Thread nD τ).loc main_arg7)) k := by
  rw [← entry_w]
  show V m c (Pipeline.arrRef spec0 4) (((cfg0.win 4).blk t).view.emb (ix2 0 k)) = _
  congr 1
  funext d
  apply Fin.ext
  fin_cases d
  all_goals blk_simp [index4]
  all_goals simp [ix2]

/-- The second result. -/
theorem arr6 : (dats m 0 c).arrAt 6 cfg0.N = fun y =>
    Spec.out1 (m ((c.tc : Thread nD τ).loc main_arg0)) (m ((c.tc : Thread nD τ).loc main_arg3)) (y 0) (y 1) := by
  refine (dats m 0 c).arrAt_eq_of_covers 6 _ (by decide +kernel) fun t hf y => ?_
  blk_simp
  rw [after0_6]
  idx_vars y
  rw [KernelBlock.out1]
  simp only [iblk0, iblk2]
  have e0 : (((View.whole main_v0_1).slice (win0_6.rect t)).emb (ix2 y0 y1) 0) = row t y0 := by
    apply Fin.ext; blk_simp [index6]; rfl
  have e1 : (((View.whole main_v0_1).slice (win0_6.rect t)).emb (ix2 y0 y1) 1) = y1 := by
    apply Fin.ext; blk_simp [index6]
  rw [e0, e1]
  rfl

/-- The third result. -/
theorem arr7 : (dats m 0 c).arrAt 7 cfg0.N = fun y => Spec.ws (m ((c.tc : Thread nD τ).loc main_arg1))
    (weight (m ((c.tc : Thread nD τ).loc main_arg2)) (m ((c.tc : Thread nD τ).loc main_arg7))) (y 0) (y 1) := by
  refine (dats m 0 c).arrAt_eq_of_covers 7 _ (by decide +kernel) fun t hf y => ?_
  blk_simp
  rw [after0_7]
  idx_vars y
  rw [KernelBlock.ws]
  simp only [iblk1, iblk4]
  have e0 : (((View.whole main_v0_2).slice (win0_7.rect t)).emb (ix2 y0 y1) 0) = row t y0 := by
    apply Fin.ext; blk_simp [index7]; rfl
  have e1 : (((View.whole main_v0_2).slice (win0_7.rect t)).emb (ix2 y0 y1) 1) = y1 := by
    apply Fin.ext; blk_simp [index7]
  rw [e0, e1]
  rfl

/-- The first result. -/
theorem arr5 : (dats m 0 c).arrAt 5 cfg0.N = fun y => Spec.out (m ((c.tc : Thread nD τ).loc main_arg0)) (m ((c.tc : Thread nD τ).loc main_arg1))
    (m ((c.tc : Thread nD τ).loc main_arg3)) (m ((c.tc : Thread nD τ).loc main_arg5))
    (weight (m ((c.tc : Thread nD τ).loc main_arg2)) (m ((c.tc : Thread nD τ).loc main_arg7))) (y 0) (y 1) := by
  refine (dats m 0 c).arrAt_eq_of_covers 5 _ (by decide +kernel) fun t hf y => ?_
  blk_simp
  rw [after0_5]
  idx_vars y
  rw [KernelBlock.out]
  simp only [KernelBlock.out1, KernelBlock.ws, iblk0, iblk1, iblk2, iblk3, iblk4]
  have e0 : (((View.whole main_v0_0).slice (win0_5.rect t)).emb (ix2 y0 y1) 0) = row t y0 := by
    apply Fin.ext; blk_simp [index5]; rfl
  have e1 : (((View.whole main_v0_0).slice (win0_5.rect t)).emb (ix2 y0 y1) 1) = y1 := by
    apply Fin.ext; blk_simp [index5]
  rw [e0, e1]
  rfl

end KernelValue
-- ==== Proof.Read.lean ====
module

public import proofs.«01_k».proof.Proof.Line

/-! Reading the equation of one operation off a program whose equations are solved, first operation first. -/

@[expose] public section

noncomputable section

namespace Line

open Idealize.ShloMosaic Idealize.ShloMosaic.TcCoe Idealize.SL.Sem Idealize.ShloMosaic.StableHlo

variable {τ : Topo} {sig : RefSig} {Val : EltTy → Type} {Λ : Labels} {nD : Nat}
variable {W : Valuation τ sig Val} {Tx Ta Tb Tc Te Ty : BufTy}

/-- What a typed reference's buffer holds. -/
def val (W : Valuation τ sig Val) (z : TRef sig Ty) : Ty.Contents Val := z.ofBuf (W (at' z.ref))

/-- Contents put into a buffer are the contents read from it. -/
theorem ofBuf_toBuf' (y : TRef sig Ty) (v : Ty.Contents Val) : y.ofBuf (y.toBuf v) = v := by
  simp

/-- The equation of an operation (nullary) that leaves the contents as they are. -/
theorem val_nullary {y : TRef sig Ty} {v : Ty.Contents Val} (h : (TRef.nullary y v : HloOp τ sig Val).result W = W) :
    val W y = v := by
  have e := congrFun h (at' y.ref)
  rw [nullary_result] at e
  rw [val, ← e, ofBuf_toBuf']

/-- The equation of an operation (unary) that leaves the contents as they are. -/
theorem val_unary {x : TRef sig Tx} {y : TRef sig Ty} {f : Tx.Contents Val → Ty.Contents Val}
    (h : (TRef.unary x y f : HloOp τ sig Val).result W = W) : val W y = f (val W x) := by
  have e := congrFun h (at' y.ref)
  rw [unary_result] at e
  rw [val, ← e, ofBuf_toBuf']
  rfl

/-- The equation of an operation (binary) that leaves the contents as they are. -/
theorem val_binary {a : TRef sig Ta} {b : TRef sig Tb} {y : TRef sig Ty} {f : Ta.Contents Val → Tb.Contents Val → Ty.Contents Val}
    (h : (TRef.binary a b y f : HloOp τ sig Val).result W = W) : val W y = f (val W a) (val W b) := by
  have e := congrFun h (at' y.ref)
  rw [binary_result] at e
  rw [val, ← e, ofBuf_toBuf']
  rfl

/-- The equation of an operation (quaternary) that leaves the contents as they are. -/
theorem val_quaternary {a : TRef sig Ta} {b : TRef sig Tb} {c : TRef sig Tc} {e : TRef sig Te} {y : TRef sig Ty}
    {f : Ta.Contents Val → Tb.Contents Val → Tc.Contents Val → Te.Contents Val → Ty.Contents Val}
    (h : (TRef.quaternary a b c e y f : HloOp τ sig Val).result W = W) : val W y = f (val W a) (val W b) (val W c) (val W e) := by
  have e := congrFun h (at' y.ref)
  rw [quaternary_result] at e
  rw [val, ← e, ofBuf_toBuf']
  rfl

/-- The equation of an operation (reshape) that leaves the contents as they are. -/
theorem val_reshape {x : TRef sig Tx} {y : TRef sig Ty} {he : Tx.elt = Ty.elt} {hn : Tx.shape.ShapeCasts Ty.shape}
    (h : (TRef.reshape x y he hn : HloOp τ sig Val).result W = W) :
    val W y = fun i => he ▸ shapeCast Ty.shape (val W x) hn i := by
  have e := congrFun h (at' y.ref)
  rw [reshape_result] at e
  obtain ⟨rx, rfl, _, _⟩ := x
  obtain ⟨ry, rfl, _, _⟩ := y
  exact e.symm

variable {k : PUnit → Prog (TpuEff nD τ sig Val Λ (.tc : Proc τ)) PUnit}

/-- A constant's equation. -/
theorem Solves.nul {y : TRef sig Ty} {v : Ty.Contents Val}
    (h : Solves W ((hlo rfl (TRef.nullary y v) fun _ => .ret ⟨⟩) >>= k)) : val W y = v ∧ Solves W (k ⟨⟩) :=
  ⟨val_nullary h.both.1.fix, h.both.2⟩

/-- A one-operand operation's equation. -/
theorem Solves.un {x : TRef sig Tx} {y : TRef sig Ty} {f : Tx.Contents Val → Ty.Contents Val}
    (h : Solves W ((hlo rfl (TRef.unary x y f) fun _ => .ret ⟨⟩) >>= k)) : val W y = f (val W x) ∧ Solves W (k ⟨⟩) :=
  ⟨val_unary h.both.1.fix, h.both.2⟩

/-- A two-operand operation's equation. -/
theorem Solves.bin {a : TRef sig Ta} {b : TRef sig Tb} {y : TRef sig Ty} {f : Ta.Contents Val → Tb.Contents Val → Ty.Contents Val}
    (h : Solves W ((hlo rfl (TRef.binary a b y f) fun _ => .ret ⟨⟩) >>= k)) : val W y = f (val W a) (val W b) ∧ Solves W (k ⟨⟩) :=
  ⟨val_binary h.both.1.fix, h.both.2⟩

/-- A four-operand operation's equation. -/
theorem Solves.quat {a : TRef sig Ta} {b : TRef sig Tb} {c : TRef sig Tc} {e : TRef sig Te} {y : TRef sig Ty}
    {f : Ta.Contents Val → Tb.Contents Val → Tc.Contents Val → Te.Contents Val → Ty.Contents Val}
    (h : Solves W ((hlo rfl (TRef.quaternary a b c e y f) fun _ => .ret ⟨⟩) >>= k)) :
    val W y = f (val W a) (val W b) (val W c) (val W e) ∧ Solves W (k ⟨⟩) :=
  ⟨val_quaternary h.both.1.fix, h.both.2⟩

/-- A reshape's equation. -/
theorem Solves.resh {x : TRef sig Tx} {y : TRef sig Ty} {he : Tx.elt = Ty.elt} {hn : Tx.shape.ShapeCasts Ty.shape}
    (h : Solves W ((hlo rfl (TRef.reshape x y he hn) fun _ => .ret ⟨⟩) >>= k)) :
    (val W y = fun i => he ▸ shapeCast Ty.shape (val W x) hn i) ∧ Solves W (k ⟨⟩) :=
  ⟨val_reshape h.both.1.fix, h.both.2⟩

/-- The last of a part's operations. -/
theorem Solves.lastUn {x : TRef sig Tx} {y : TRef sig Ty} {f : Tx.Contents Val → Ty.Contents Val}
    (h : Solves W ((hlo rfl (TRef.unary x y f) fun _ => .ret ⟨⟩) : Prog (TpuEff nD τ sig Val Λ (.tc : Proc τ)) PUnit)) : val W y = f (val W x) :=
  val_unary h.fix

/-- The last of a part's operations. -/
theorem Solves.lastBin {a : TRef sig Ta} {b : TRef sig Tb} {y : TRef sig Ty} {f : Ta.Contents Val → Tb.Contents Val → Ty.Contents Val}
    (h : Solves W ((hlo rfl (TRef.binary a b y f) fun _ => .ret ⟨⟩) : Prog (TpuEff nD τ sig Val Λ (.tc : Proc τ)) PUnit)) :
    val W y = f (val W a) (val W b) :=
  val_binary h.fix

/-- A constant's equation, its buffer named. -/
theorem Solves.nul' {y : Ref sig .tc} {v : y.ty.Contents Val} {hy}
    (h : Solves W ((hlo rfl (nullary (τ := τ) y v hy) fun _ => .ret ⟨⟩) >>= k)) : W (at' y) = v ∧ Solves W (k ⟨⟩) :=
  ⟨by rw [← congrFun h.both.1.fix (at' y), nullary_result], h.both.2⟩

/-- A one-operand operation's equation, its buffers named. -/
theorem Solves.un' {x y : Ref sig .tc} {f : x.ty.Contents Val → y.ty.Contents Val} {hx hy}
    (h : Solves W ((hlo rfl (unary (τ := τ) x y f hx hy) fun _ => .ret ⟨⟩) >>= k)) : W (at' y) = f (W (at' x)) ∧ Solves W (k ⟨⟩) :=
  ⟨by have e := congrFun h.both.1.fix (at' y); rw [unary_result] at e; exact e.symm, h.both.2⟩

/-- A two-operand operation's equation, its buffers named. -/
theorem Solves.bin' {a b y : Ref sig .tc} {f : a.ty.Contents Val → b.ty.Contents Val → y.ty.Contents Val} {ha hb hy}
    (h : Solves W ((hlo rfl (binary (τ := τ) a b y f ha hb hy) fun _ => .ret ⟨⟩) >>= k)) :
    W (at' y) = f (W (at' a)) (W (at' b)) ∧ Solves W (k ⟨⟩) :=
  ⟨by have e := congrFun h.both.1.fix (at' y); rw [binary_result] at e; exact e.symm, h.both.2⟩

/-- A many-operand operation's equation, its buffers named. -/
theorem Solves.nary' {n : Nat} {xs : Fin n → Ref sig .tc} {y : Ref sig .tc} {f : ((k : Fin n) → (xs k).ty.Contents Val) → y.ty.Contents Val} {hxs hy}
    (h : Solves W ((hlo rfl (nary (τ := τ) xs y f hxs hy) fun _ => .ret ⟨⟩) >>= k)) :
    W (at' y) = f (fun k => W (at' (xs k))) ∧ Solves W (k ⟨⟩) :=
  ⟨by have e := congrFun h.both.1.fix (at' y); rw [nary_result] at e; exact e.symm, h.both.2⟩

/-- The last of a part's operations, its buffers named. -/
theorem Solves.lastUn' {x y : Ref sig .tc} {f : x.ty.Contents Val → y.ty.Contents Val} {hx hy}
    (h : Solves W ((hlo rfl (unary (τ := τ) x y f hx hy) fun _ => .ret ⟨⟩) : Prog (TpuEff nD τ sig Val Λ (.tc : Proc τ)) PUnit)) :
    W (at' y) = f (W (at' x)) := by
  have e := congrFun h.fix (at' y); rw [unary_result] at e; exact e.symm

end Line
-- ==== Proof.RefHash.lean ====
module

public import proofs.«01_k».proof.Proof.Read
public import proofs.«01_k».proof.Proof.Threefry
public import proofs.«01_k».proof.Proof.Gen.ReferenceIdeal
public import Idealize.ShloMosaic.Lib.Pointwise

/-! The reference's random generator: what its function leaves at each position. -/

set_option maxRecDepth 100000

@[expose] public section

noncomputable section

namespace RefHash

open Cert.ReferenceIdeal Cert.ReferenceIdeal.Gen Idealize.ShloMosaic Idealize.ShloMosaic.TcCoe Idealize.SL.Sem
open Line (Solves val)

section
variable {sh : Shape} {hb : S_.BroadcastsInDim sh ![]} {i : sh.Idx} {p : BitVec 32 × BitVec 32}

/-- A scalar spread over an array is the scalar everywhere. -/
theorem bcast_scalar {α : Type} (x : S_.Idx → α) : broadcastInDim sh ![] hb x i = x ix0 :=
  congrArg x (funext fun d => d.elim0)

/-- The third key word. -/
theorem third {a b c v0 v1 : S_.Idx → BitVec 32} (e0 : v0 = xori a b) (ec : c = constantI S_ 32 466688986#32) (e1 : v1 = xori v0 c) :
    v1 ix0 = Threefry.third (a ix0) (b ix0) := by
  subst e0 ec e1; rfl

/-- The key words added to the counter. -/
theorem start {a0 a1 : S_.Idx → BitVec 32} {a2 a3 v2 v3 v4 v5 : sh.Idx → BitVec 32}
    (e2 : v2 = broadcastInDim sh ![] hb a0) (e3 : v3 = addi a2 v2) (e4 : v4 = broadcastInDim sh ![] hb a1) (e5 : v5 = addi a3 v4)
    (i : sh.Idx) : (v3 i, v5 i) = (a2 i + a0 ix0, a3 i + a1 ix0) := by
  subst e2 e3 e4 e5
  show (a2 i + broadcastInDim sh ![] hb a0 i, a3 i + broadcastInDim sh ![] hb a1 i) = _
  rw [bcast_scalar, bcast_scalar]

/-- One round. -/
theorem mix {s t : Nat} (hs : s + t = 32 ∧ 0 < s ∧ 0 < t) {A B A' v7 v8 v9 v10 v11 B' : sh.Idx → BitVec 32} {c d : S_.Idx → BitVec 32}
    (eA : A' = addi A B) (ec : c = constantI S_ 32 (BitVec.ofNat 32 s)) (e7 : v7 = broadcastInDim sh ![] hb c)
    (e8 : v8 = Host.shli B v7) (ed : d = constantI S_ 32 (BitVec.ofNat 32 t)) (e9 : v9 = broadcastInDim sh ![] hb d)
    (e10 : v10 = Host.shrui B v9) (e11 : v11 = ori v8 v10) (eB : B' = xori A' v11) (r : (A i, B i) = p) :
    (A' i, B' i) = Threefry.round s p := by
  subst eA ec e7 e8 ed e9 e10 e11 eB r
  show (A i + B i, (A i + B i) ^^^ (IntOp.shli .host (B i) (broadcastInDim sh ![] hb (constantI S_ 32 (BitVec.ofNat 32 s)) i)
    ||| IntOp.shrui .host (B i) (broadcastInDim sh ![] hb (constantI S_ 32 (BitVec.ofNat 32 t)) i))) = _
  rw [bcast_scalar, bcast_scalar]
  show (A i + B i, (A i + B i) ^^^ (IntOp.shli .host (B i) (BitVec.ofNat 32 s) ||| IntOp.shrui .host (B i) (BitVec.ofNat 32 t))) = _
  have e1 : (BitVec.ofNat 32 s).toNat = s := by simp; omega
  have e2 : (BitVec.ofNat 32 t).toNat = t := by simp; omega
  have l1 : s < 32 := by omega
  have l2 : t < 32 := by omega
  have l3 : 32 - s = t := by omega
  simp only [IntOp.shli, IntOp.shrui, e1, e2, l1, l2, if_true, Threefry.round, l3]
  rw [BitVec.xor_comm, BitVec.shiftLeft_eq', BitVec.ushiftRight_eq', e1, e2]

/-- One injection. -/
theorem inj {K0 K1 c : S_.Idx → BitVec 32} {A B v34 A' v36 v37 v38 B' : sh.Idx → BitVec 32} {n : BitVec 32}
    (e34 : v34 = broadcastInDim sh ![] hb K0) (e35 : A' = addi A v34) (e36 : v36 = broadcastInDim sh ![] hb K1)
    (e37 : v37 = addi B v36) (ec : c = constantI S_ 32 n) (e38 : v38 = broadcastInDim sh ![] hb c) (e39 : B' = addi v37 v38)
    (r : (A i, B i) = p) : (A' i, B' i) = Threefry.inject (K0 ix0) (K1 ix0) n p := by
  subst e34 e35 e36 e37 ec e38 e39 r
  show (A i + broadcastInDim sh ![] hb K0 i, B i + broadcastInDim sh ![] hb K1 i + broadcastInDim sh ![] hb (constantI S_ 32 n) i) = _
  rw [bcast_scalar, bcast_scalar, bcast_scalar]
  rfl
end

variable {F : FTy → Type} [FloatOps F] {W : Valuation τ sig (Elt F)}

set_option maxHeartbeats 4000000 in
/-- The two words of every position of the four candidates. -/
theorem hash4 {a0 a1 : StableHlo.TRef sig ⟨S_, .i32⟩} {a2 a3 : StableHlo.TRef sig ⟨S16384x128x4, .i32⟩} {φ : fn_threefry2x32.Bufs}
    (h : Solves W (fn_threefry2x32.body (F := F) a0 a1 a2 a3 φ)) (i : S16384x128x4.Idx) :
    ((val W φ.v171 i : BitVec 32), (val W φ.v175 i : BitVec 32))
      = Threefry.hash (val W a0 ix0) (val W a1 ix0) (val W a2 i) (val W a3 i) := by
  obtain ⟨h0, h⟩ := h.both
  obtain ⟨h1, h⟩ := h.both
  obtain ⟨h2, h3⟩ := h.both
  obtain ⟨e_v0, h0⟩ := h0.bin
  obtain ⟨e_c, h0⟩ := h0.nul
  obtain ⟨e_v1, h0⟩ := h0.bin
  obtain ⟨e_v2, h0⟩ := h0.un
  obtain ⟨e_v3, h0⟩ := h0.bin
  obtain ⟨e_v4, h0⟩ := h0.un
  obtain ⟨e_v5, h0⟩ := h0.bin
  obtain ⟨e_v6, h0⟩ := h0.bin
  obtain ⟨e_c_0, h0⟩ := h0.nul
  obtain ⟨e_v7, h0⟩ := h0.un
  obtain ⟨e_v8, h0⟩ := h0.bin
  obtain ⟨e_c_1, h0⟩ := h0.nul
  obtain ⟨e_v9, h0⟩ := h0.un
  obtain ⟨e_v10, h0⟩ := h0.bin
  obtain ⟨e_v11, h0⟩ := h0.bin
  obtain ⟨e_v12, h0⟩ := h0.bin
  obtain ⟨e_v13, h0⟩ := h0.bin
  obtain ⟨e_c_2, h0⟩ := h0.nul
  obtain ⟨e_v14, h0⟩ := h0.un
  obtain ⟨e_v15, h0⟩ := h0.bin
  obtain ⟨e_c_3, h0⟩ := h0.nul
  obtain ⟨e_v16, h0⟩ := h0.un
  obtain ⟨e_v17, h0⟩ := h0.bin
  obtain ⟨e_v18, h0⟩ := h0.bin
  obtain ⟨e_v19, h0⟩ := h0.bin
  obtain ⟨e_v20, h0⟩ := h0.bin
  obtain ⟨e_c_4, h0⟩ := h0.nul
  obtain ⟨e_v21, h0⟩ := h0.un
  obtain ⟨e_v22, h0⟩ := h0.bin
  obtain ⟨e_c_5, h0⟩ := h0.nul
  obtain ⟨e_v23, h0⟩ := h0.un
  obtain ⟨e_v24, h0⟩ := h0.bin
  obtain ⟨e_v25, h0⟩ := h0.bin
  obtain ⟨e_v26, h0⟩ := h0.bin
  obtain ⟨e_v27, h0⟩ := h0.bin
  obtain ⟨e_c_6, h0⟩ := h0.nul
  obtain ⟨e_v28, h0⟩ := h0.un
  obtain ⟨e_v29, h0⟩ := h0.bin
  obtain ⟨e_c_7, h0⟩ := h0.nul
  obtain ⟨e_v30, h0⟩ := h0.un
  obtain ⟨e_v31, h0⟩ := h0.bin
  obtain ⟨e_v32, h0⟩ := h0.bin
  obtain ⟨e_v33, h0⟩ := h0.bin
  obtain ⟨e_v34, h0⟩ := h0.un
  obtain ⟨e_v35, h0⟩ := h0.bin
  obtain ⟨e_v36, h0⟩ := h0.un
  obtain ⟨e_v37, h0⟩ := h0.bin
  obtain ⟨e_c_8, h0⟩ := h0.nul
  obtain ⟨e_v38, h0⟩ := h0.un
  obtain ⟨e_v39, h0⟩ := h0.bin
  obtain ⟨e_v40, h0⟩ := h0.bin
  obtain ⟨e_c_9, h0⟩ := h0.nul
  obtain ⟨e_v41, h0⟩ := h0.un
  obtain ⟨e_v42, h0⟩ := h0.bin
  obtain ⟨e_c_10, h0⟩ := h0.nul
  obtain ⟨e_v43, h0⟩ := h0.un
  obtain ⟨e_v44, h0⟩ := h0.bin
  obtain ⟨e_v45, h0⟩ := h0.bin
  obtain ⟨e_v46, h0⟩ := h0.bin
  have e_v47 := h0.lastBin
  obtain ⟨e_c_11, h1⟩ := h1.nul
  obtain ⟨e_v48, h1⟩ := h1.un
  obtain ⟨e_v49, h1⟩ := h1.bin
  obtain ⟨e_c_12, h1⟩ := h1.nul
  obtain ⟨e_v50, h1⟩ := h1.un
  obtain ⟨e_v51, h1⟩ := h1.bin
  obtain ⟨e_v52, h1⟩ := h1.bin
  obtain ⟨e_v53, h1⟩ := h1.bin
  obtain ⟨e_v54, h1⟩ := h1.bin
  obtain ⟨e_c_13, h1⟩ := h1.nul
  obtain ⟨e_v55, h1⟩ := h1.un
  obtain ⟨e_v56, h1⟩ := h1.bin
  obtain ⟨e_c_14, h1⟩ := h1.nul
  obtain ⟨e_v57, h1⟩ := h1.un
  obtain ⟨e_v58, h1⟩ := h1.bin
  obtain ⟨e_v59, h1⟩ := h1.bin
  obtain ⟨e_v60, h1⟩ := h1.bin
  obtain ⟨e_v61, h1⟩ := h1.bin
  obtain ⟨e_c_15, h1⟩ := h1.nul
  obtain ⟨e_v62, h1⟩ := h1.un
  obtain ⟨e_v63, h1⟩ := h1.bin
  obtain ⟨e_c_16, h1⟩ := h1.nul
  obtain ⟨e_v64, h1⟩ := h1.un
  obtain ⟨e_v65, h1⟩ := h1.bin
  obtain ⟨e_v66, h1⟩ := h1.bin
  obtain ⟨e_v67, h1⟩ := h1.bin
  obtain ⟨e_v68, h1⟩ := h1.un
  obtain ⟨e_v69, h1⟩ := h1.bin
  obtain ⟨e_v70, h1⟩ := h1.un
  obtain ⟨e_v71, h1⟩ := h1.bin
  obtain ⟨e_c_17, h1⟩ := h1.nul
  obtain ⟨e_v72, h1⟩ := h1.un
  obtain ⟨e_v73, h1⟩ := h1.bin
  obtain ⟨e_v74, h1⟩ := h1.bin
  obtain ⟨e_c_18, h1⟩ := h1.nul
  obtain ⟨e_v75, h1⟩ := h1.un
  obtain ⟨e_v76, h1⟩ := h1.bin
  obtain ⟨e_c_19, h1⟩ := h1.nul
  obtain ⟨e_v77, h1⟩ := h1.un
  obtain ⟨e_v78, h1⟩ := h1.bin
  obtain ⟨e_v79, h1⟩ := h1.bin
  obtain ⟨e_v80, h1⟩ := h1.bin
  obtain ⟨e_v81, h1⟩ := h1.bin
  obtain ⟨e_c_20, h1⟩ := h1.nul
  obtain ⟨e_v82, h1⟩ := h1.un
  obtain ⟨e_v83, h1⟩ := h1.bin
  obtain ⟨e_c_21, h1⟩ := h1.nul
  obtain ⟨e_v84, h1⟩ := h1.un
  obtain ⟨e_v85, h1⟩ := h1.bin
  obtain ⟨e_v86, h1⟩ := h1.bin
  obtain ⟨e_v87, h1⟩ := h1.bin
  obtain ⟨e_v88, h1⟩ := h1.bin
  obtain ⟨e_c_22, h1⟩ := h1.nul
  obtain ⟨e_v89, h1⟩ := h1.un
  obtain ⟨e_v90, h1⟩ := h1.bin
  obtain ⟨e_c_23, h1⟩ := h1.nul
  obtain ⟨e_v91, h1⟩ := h1.un
  obtain ⟨e_v92, h1⟩ := h1.bin
  obtain ⟨e_v93, h1⟩ := h1.bin
  have e_v94 := h1.lastBin
  obtain ⟨e_v95, h2⟩ := h2.bin
  obtain ⟨e_c_24, h2⟩ := h2.nul
  obtain ⟨e_v96, h2⟩ := h2.un
  obtain ⟨e_v97, h2⟩ := h2.bin
  obtain ⟨e_c_25, h2⟩ := h2.nul
  obtain ⟨e_v98, h2⟩ := h2.un
  obtain ⟨e_v99, h2⟩ := h2.bin
  obtain ⟨e_v100, h2⟩ := h2.bin
  obtain ⟨e_v101, h2⟩ := h2.bin
  obtain ⟨e_v102, h2⟩ := h2.un
  obtain ⟨e_v103, h2⟩ := h2.bin
  obtain ⟨e_v104, h2⟩ := h2.un
  obtain ⟨e_v105, h2⟩ := h2.bin
  obtain ⟨e_c_26, h2⟩ := h2.nul
  obtain ⟨e_v106, h2⟩ := h2.un
  obtain ⟨e_v107, h2⟩ := h2.bin
  obtain ⟨e_v108, h2⟩ := h2.bin
  obtain ⟨e_c_27, h2⟩ := h2.nul
  obtain ⟨e_v109, h2⟩ := h2.un
  obtain ⟨e_v110, h2⟩ := h2.bin
  obtain ⟨e_c_28, h2⟩ := h2.nul
  obtain ⟨e_v111, h2⟩ := h2.un
  obtain ⟨e_v112, h2⟩ := h2.bin
  obtain ⟨e_v113, h2⟩ := h2.bin
  obtain ⟨e_v114, h2⟩ := h2.bin
  obtain ⟨e_v115, h2⟩ := h2.bin
  obtain ⟨e_c_29, h2⟩ := h2.nul
  obtain ⟨e_v116, h2⟩ := h2.un
  obtain ⟨e_v117, h2⟩ := h2.bin
  obtain ⟨e_c_30, h2⟩ := h2.nul
  obtain ⟨e_v118, h2⟩ := h2.un
  obtain ⟨e_v119, h2⟩ := h2.bin
  obtain ⟨e_v120, h2⟩ := h2.bin
  obtain ⟨e_v121, h2⟩ := h2.bin
  obtain ⟨e_v122, h2⟩ := h2.bin
  obtain ⟨e_c_31, h2⟩ := h2.nul
  obtain ⟨e_v123, h2⟩ := h2.un
  obtain ⟨e_v124, h2⟩ := h2.bin
  obtain ⟨e_c_32, h2⟩ := h2.nul
  obtain ⟨e_v125, h2⟩ := h2.un
  obtain ⟨e_v126, h2⟩ := h2.bin
  obtain ⟨e_v127, h2⟩ := h2.bin
  obtain ⟨e_v128, h2⟩ := h2.bin
  obtain ⟨e_v129, h2⟩ := h2.bin
  obtain ⟨e_c_33, h2⟩ := h2.nul
  obtain ⟨e_v130, h2⟩ := h2.un
  obtain ⟨e_v131, h2⟩ := h2.bin
  obtain ⟨e_c_34, h2⟩ := h2.nul
  obtain ⟨e_v132, h2⟩ := h2.un
  obtain ⟨e_v133, h2⟩ := h2.bin
  obtain ⟨e_v134, h2⟩ := h2.bin
  obtain ⟨e_v135, h2⟩ := h2.bin
  obtain ⟨e_v136, h2⟩ := h2.un
  obtain ⟨e_v137, h2⟩ := h2.bin
  obtain ⟨e_v138, h2⟩ := h2.un
  obtain ⟨e_v139, h2⟩ := h2.bin
  obtain ⟨e_c_35, h2⟩ := h2.nul
  obtain ⟨e_v140, h2⟩ := h2.un
  obtain ⟨e_v141, h2⟩ := h2.bin
  have e_v142 := h2.lastBin
  obtain ⟨e_c_36, h3⟩ := h3.nul
  obtain ⟨e_v143, h3⟩ := h3.un
  obtain ⟨e_v144, h3⟩ := h3.bin
  obtain ⟨e_c_37, h3⟩ := h3.nul
  obtain ⟨e_v145, h3⟩ := h3.un
  obtain ⟨e_v146, h3⟩ := h3.bin
  obtain ⟨e_v147, h3⟩ := h3.bin
  obtain ⟨e_v148, h3⟩ := h3.bin
  obtain ⟨e_v149, h3⟩ := h3.bin
  obtain ⟨e_c_38, h3⟩ := h3.nul
  obtain ⟨e_v150, h3⟩ := h3.un
  obtain ⟨e_v151, h3⟩ := h3.bin
  obtain ⟨e_c_39, h3⟩ := h3.nul
  obtain ⟨e_v152, h3⟩ := h3.un
  obtain ⟨e_v153, h3⟩ := h3.bin
  obtain ⟨e_v154, h3⟩ := h3.bin
  obtain ⟨e_v155, h3⟩ := h3.bin
  obtain ⟨e_v156, h3⟩ := h3.bin
  obtain ⟨e_c_40, h3⟩ := h3.nul
  obtain ⟨e_v157, h3⟩ := h3.un
  obtain ⟨e_v158, h3⟩ := h3.bin
  obtain ⟨e_c_41, h3⟩ := h3.nul
  obtain ⟨e_v159, h3⟩ := h3.un
  obtain ⟨e_v160, h3⟩ := h3.bin
  obtain ⟨e_v161, h3⟩ := h3.bin
  obtain ⟨e_v162, h3⟩ := h3.bin
  obtain ⟨e_v163, h3⟩ := h3.bin
  obtain ⟨e_c_42, h3⟩ := h3.nul
  obtain ⟨e_v164, h3⟩ := h3.un
  obtain ⟨e_v165, h3⟩ := h3.bin
  obtain ⟨e_c_43, h3⟩ := h3.nul
  obtain ⟨e_v166, h3⟩ := h3.un
  obtain ⟨e_v167, h3⟩ := h3.bin
  obtain ⟨e_v168, h3⟩ := h3.bin
  obtain ⟨e_v169, h3⟩ := h3.bin
  obtain ⟨e_v170, h3⟩ := h3.un
  obtain ⟨e_v171, h3⟩ := h3.bin
  obtain ⟨e_v172, h3⟩ := h3.un
  obtain ⟨e_v173, h3⟩ := h3.bin
  obtain ⟨e_c_44, h3⟩ := h3.nul
  obtain ⟨e_v174, h3⟩ := h3.un
  obtain ⟨e_v175, h3⟩ := h3.bin
  have k2 := third e_v0 e_c e_v1
  have r := start e_v2 e_v3 e_v4 e_v5 i
  replace r := mix (by decide) e_v6 e_c_0 e_v7 e_v8 e_c_1 e_v9 e_v10 e_v11 e_v12 r
  replace r := mix (by decide) e_v13 e_c_2 e_v14 e_v15 e_c_3 e_v16 e_v17 e_v18 e_v19 r
  replace r := mix (by decide) e_v20 e_c_4 e_v21 e_v22 e_c_5 e_v23 e_v24 e_v25 e_v26 r
  replace r := mix (by decide) e_v27 e_c_6 e_v28 e_v29 e_c_7 e_v30 e_v31 e_v32 e_v33 r
  replace r := inj e_v34 e_v35 e_v36 e_v37 e_c_8 e_v38 e_v39 r
  replace r := mix (by decide) e_v40 e_c_9 e_v41 e_v42 e_c_10 e_v43 e_v44 e_v45 e_v46 r
  replace r := mix (by decide) e_v47 e_c_11 e_v48 e_v49 e_c_12 e_v50 e_v51 e_v52 e_v53 r
  replace r := mix (by decide) e_v54 e_c_13 e_v55 e_v56 e_c_14 e_v57 e_v58 e_v59 e_v60 r
  replace r := mix (by decide) e_v61 e_c_15 e_v62 e_v63 e_c_16 e_v64 e_v65 e_v66 e_v67 r
  replace r := inj e_v68 e_v69 e_v70 e_v71 e_c_17 e_v72 e_v73 r
  replace r := mix (by decide) e_v74 e_c_18 e_v75 e_v76 e_c_19 e_v77 e_v78 e_v79 e_v80 r
  replace r := mix (by decide) e_v81 e_c_20 e_v82 e_v83 e_c_21 e_v84 e_v85 e_v86 e_v87 r
  replace r := mix (by decide) e_v88 e_c_22 e_v89 e_v90 e_c_23 e_v91 e_v92 e_v93 e_v94 r
  replace r := mix (by decide) e_v95 e_c_24 e_v96 e_v97 e_c_25 e_v98 e_v99 e_v100 e_v101 r
  replace r := inj e_v102 e_v103 e_v104 e_v105 e_c_26 e_v106 e_v107 r
  replace r := mix (by decide) e_v108 e_c_27 e_v109 e_v110 e_c_28 e_v111 e_v112 e_v113 e_v114 r
  replace r := mix (by decide) e_v115 e_c_29 e_v116 e_v117 e_c_30 e_v118 e_v119 e_v120 e_v121 r
  replace r := mix (by decide) e_v122 e_c_31 e_v123 e_v124 e_c_32 e_v125 e_v126 e_v127 e_v128 r
  replace r := mix (by decide) e_v129 e_c_33 e_v130 e_v131 e_c_34 e_v132 e_v133 e_v134 e_v135 r
  replace r := inj e_v136 e_v137 e_v138 e_v139 e_c_35 e_v140 e_v141 r
  replace r := mix (by decide) e_v142 e_c_36 e_v143 e_v144 e_c_37 e_v145 e_v146 e_v147 e_v148 r
  replace r := mix (by decide) e_v149 e_c_38 e_v150 e_v151 e_c_39 e_v152 e_v153 e_v154 e_v155 r
  replace r := mix (by decide) e_v156 e_c_40 e_v157 e_v158 e_c_41 e_v159 e_v160 e_v161 e_v162 r
  replace r := mix (by decide) e_v163 e_c_42 e_v164 e_v165 e_c_43 e_v166 e_v167 e_v168 e_v169 r
  replace r := inj e_v170 e_v171 e_v172 e_v173 e_c_44 e_v174 e_v175 r
  rw [k2] at r
  exact r

set_option maxHeartbeats 4000000 in
/-- The two words of every position of the six candidates. -/
theorem hash6 {a0 a1 : StableHlo.TRef sig ⟨S_, .i32⟩} {a2 a3 : StableHlo.TRef sig ⟨S16384x128x6, .i32⟩} {φ : fn_threefry2x32_3.Bufs}
    (h : Solves W (fn_threefry2x32_3.body (F := F) a0 a1 a2 a3 φ)) (i : S16384x128x6.Idx) :
    ((val W φ.v171 i : BitVec 32), (val W φ.v175 i : BitVec 32))
      = Threefry.hash (val W a0 ix0) (val W a1 ix0) (val W a2 i) (val W a3 i) := by
  obtain ⟨h0, h⟩ := h.both
  obtain ⟨h1, h⟩ := h.both
  obtain ⟨h2, h3⟩ := h.both
  obtain ⟨e_v0, h0⟩ := h0.bin
  obtain ⟨e_c, h0⟩ := h0.nul
  obtain ⟨e_v1, h0⟩ := h0.bin
  obtain ⟨e_v2, h0⟩ := h0.un
  obtain ⟨e_v3, h0⟩ := h0.bin
  obtain ⟨e_v4, h0⟩ := h0.un
  obtain ⟨e_v5, h0⟩ := h0.bin
  obtain ⟨e_v6, h0⟩ := h0.bin
  obtain ⟨e_c_0, h0⟩ := h0.nul
  obtain ⟨e_v7, h0⟩ := h0.un
  obtain ⟨e_v8, h0⟩ := h0.bin
  obtain ⟨e_c_1, h0⟩ := h0.nul
  obtain ⟨e_v9, h0⟩ := h0.un
  obtain ⟨e_v10, h0⟩ := h0.bin
  obtain ⟨e_v11, h0⟩ := h0.bin
  obtain ⟨e_v12, h0⟩ := h0.bin
  obtain ⟨e_v13, h0⟩ := h0.bin
  obtain ⟨e_c_2, h0⟩ := h0.nul
  obtain ⟨e_v14, h0⟩ := h0.un
  obtain ⟨e_v15, h0⟩ := h0.bin
  obtain ⟨e_c_3, h0⟩ := h0.nul
  obtain ⟨e_v16, h0⟩ := h0.un
  obtain ⟨e_v17, h0⟩ := h0.bin
  obtain ⟨e_v18, h0⟩ := h0.bin
  obtain ⟨e_v19, h0⟩ := h0.bin
  obtain ⟨e_v20, h0⟩ := h0.bin
  obtain ⟨e_c_4, h0⟩ := h0.nul
  obtain ⟨e_v21, h0⟩ := h0.un
  obtain ⟨e_v22, h0⟩ := h0.bin
  obtain ⟨e_c_5, h0⟩ := h0.nul
  obtain ⟨e_v23, h0⟩ := h0.un
  obtain ⟨e_v24, h0⟩ := h0.bin
  obtain ⟨e_v25, h0⟩ := h0.bin
  obtain ⟨e_v26, h0⟩ := h0.bin
  obtain ⟨e_v27, h0⟩ := h0.bin
  obtain ⟨e_c_6, h0⟩ := h0.nul
  obtain ⟨e_v28, h0⟩ := h0.un
  obtain ⟨e_v29, h0⟩ := h0.bin
  obtain ⟨e_c_7, h0⟩ := h0.nul
  obtain ⟨e_v30, h0⟩ := h0.un
  obtain ⟨e_v31, h0⟩ := h0.bin
  obtain ⟨e_v32, h0⟩ := h0.bin
  obtain ⟨e_v33, h0⟩ := h0.bin
  obtain ⟨e_v34, h0⟩ := h0.un
  obtain ⟨e_v35, h0⟩ := h0.bin
  obtain ⟨e_v36, h0⟩ := h0.un
  obtain ⟨e_v37, h0⟩ := h0.bin
  obtain ⟨e_c_8, h0⟩ := h0.nul
  obtain ⟨e_v38, h0⟩ := h0.un
  obtain ⟨e_v39, h0⟩ := h0.bin
  obtain ⟨e_v40, h0⟩ := h0.bin
  obtain ⟨e_c_9, h0⟩ := h0.nul
  obtain ⟨e_v41, h0⟩ := h0.un
  obtain ⟨e_v42, h0⟩ := h0.bin
  obtain ⟨e_c_10, h0⟩ := h0.nul
  obtain ⟨e_v43, h0⟩ := h0.un
  obtain ⟨e_v44, h0⟩ := h0.bin
  obtain ⟨e_v45, h0⟩ := h0.bin
  obtain ⟨e_v46, h0⟩ := h0.bin
  have e_v47 := h0.lastBin
  obtain ⟨e_c_11, h1⟩ := h1.nul
  obtain ⟨e_v48, h1⟩ := h1.un
  obtain ⟨e_v49, h1⟩ := h1.bin
  obtain ⟨e_c_12, h1⟩ := h1.nul
  obtain ⟨e_v50, h1⟩ := h1.un
  obtain ⟨e_v51, h1⟩ := h1.bin
  obtain ⟨e_v52, h1⟩ := h1.bin
  obtain ⟨e_v53, h1⟩ := h1.bin
  obtain ⟨e_v54, h1⟩ := h1.bin
  obtain ⟨e_c_13, h1⟩ := h1.nul
  obtain ⟨e_v55, h1⟩ := h1.un
  obtain ⟨e_v56, h1⟩ := h1.bin
  obtain ⟨e_c_14, h1⟩ := h1.nul
  obtain ⟨e_v57, h1⟩ := h1.un
  obtain ⟨e_v58, h1⟩ := h1.bin
  obtain ⟨e_v59, h1⟩ := h1.bin
  obtain ⟨e_v60, h1⟩ := h1.bin
  obtain ⟨e_v61, h1⟩ := h1.bin
  obtain ⟨e_c_15, h1⟩ := h1.nul
  obtain ⟨e_v62, h1⟩ := h1.un
  obtain ⟨e_v63, h1⟩ := h1.bin
  obtain ⟨e_c_16, h1⟩ := h1.nul
  obtain ⟨e_v64, h1⟩ := h1.un
  obtain ⟨e_v65, h1⟩ := h1.bin
  obtain ⟨e_v66, h1⟩ := h1.bin
  obtain ⟨e_v67, h1⟩ := h1.bin
  obtain ⟨e_v68, h1⟩ := h1.un
  obtain ⟨e_v69, h1⟩ := h1.bin
  obtain ⟨e_v70, h1⟩ := h1.un
  obtain ⟨e_v71, h1⟩ := h1.bin
  obtain ⟨e_c_17, h1⟩ := h1.nul
  obtain ⟨e_v72, h1⟩ := h1.un
  obtain ⟨e_v73, h1⟩ := h1.bin
  obtain ⟨e_v74, h1⟩ := h1.bin
  obtain ⟨e_c_18, h1⟩ := h1.nul
  obtain ⟨e_v75, h1⟩ := h1.un
  obtain ⟨e_v76, h1⟩ := h1.bin
  obtain ⟨e_c_19, h1⟩ := h1.nul
  obtain ⟨e_v77, h1⟩ := h1.un
  obtain ⟨e_v78, h1⟩ := h1.bin
  obtain ⟨e_v79, h1⟩ := h1.bin
  obtain ⟨e_v80, h1⟩ := h1.bin
  obtain ⟨e_v81, h1⟩ := h1.bin
  obtain ⟨e_c_20, h1⟩ := h1.nul
  obtain ⟨e_v82, h1⟩ := h1.un
  obtain ⟨e_v83, h1⟩ := h1.bin
  obtain ⟨e_c_21, h1⟩ := h1.nul
  obtain ⟨e_v84, h1⟩ := h1.un
  obtain ⟨e_v85, h1⟩ := h1.bin
  obtain ⟨e_v86, h1⟩ := h1.bin
  obtain ⟨e_v87, h1⟩ := h1.bin
  obtain ⟨e_v88, h1⟩ := h1.bin
  obtain ⟨e_c_22, h1⟩ := h1.nul
  obtain ⟨e_v89, h1⟩ := h1.un
  obtain ⟨e_v90, h1⟩ := h1.bin
  obtain ⟨e_c_23, h1⟩ := h1.nul
  obtain ⟨e_v91, h1⟩ := h1.un
  obtain ⟨e_v92, h1⟩ := h1.bin
  obtain ⟨e_v93, h1⟩ := h1.bin
  have e_v94 := h1.lastBin
  obtain ⟨e_v95, h2⟩ := h2.bin
  obtain ⟨e_c_24, h2⟩ := h2.nul
  obtain ⟨e_v96, h2⟩ := h2.un
  obtain ⟨e_v97, h2⟩ := h2.bin
  obtain ⟨e_c_25, h2⟩ := h2.nul
  obtain ⟨e_v98, h2⟩ := h2.un
  obtain ⟨e_v99, h2⟩ := h2.bin
  obtain ⟨e_v100, h2⟩ := h2.bin
  obtain ⟨e_v101, h2⟩ := h2.bin
  obtain ⟨e_v102, h2⟩ := h2.un
  obtain ⟨e_v103, h2⟩ := h2.bin
  obtain ⟨e_v104, h2⟩ := h2.un
  obtain ⟨e_v105, h2⟩ := h2.bin
  obtain ⟨e_c_26, h2⟩ := h2.nul
  obtain ⟨e_v106, h2⟩ := h2.un
  obtain ⟨e_v107, h2⟩ := h2.bin
  obtain ⟨e_v108, h2⟩ := h2.bin
  obtain ⟨e_c_27, h2⟩ := h2.nul
  obtain ⟨e_v109, h2⟩ := h2.un
  obtain ⟨e_v110, h2⟩ := h2.bin
  obtain ⟨e_c_28, h2⟩ := h2.nul
  obtain ⟨e_v111, h2⟩ := h2.un
  obtain ⟨e_v112, h2⟩ := h2.bin
  obtain ⟨e_v113, h2⟩ := h2.bin
  obtain ⟨e_v114, h2⟩ := h2.bin
  obtain ⟨e_v115, h2⟩ := h2.bin
  obtain ⟨e_c_29, h2⟩ := h2.nul
  obtain ⟨e_v116, h2⟩ := h2.un
  obtain ⟨e_v117, h2⟩ := h2.bin
  obtain ⟨e_c_30, h2⟩ := h2.nul
  obtain ⟨e_v118, h2⟩ := h2.un
  obtain ⟨e_v119, h2⟩ := h2.bin
  obtain ⟨e_v120, h2⟩ := h2.bin
  obtain ⟨e_v121, h2⟩ := h2.bin
  obtain ⟨e_v122, h2⟩ := h2.bin
  obtain ⟨e_c_31, h2⟩ := h2.nul
  obtain ⟨e_v123, h2⟩ := h2.un
  obtain ⟨e_v124, h2⟩ := h2.bin
  obtain ⟨e_c_32, h2⟩ := h2.nul
  obtain ⟨e_v125, h2⟩ := h2.un
  obtain ⟨e_v126, h2⟩ := h2.bin
  obtain ⟨e_v127, h2⟩ := h2.bin
  obtain ⟨e_v128, h2⟩ := h2.bin
  obtain ⟨e_v129, h2⟩ := h2.bin
  obtain ⟨e_c_33, h2⟩ := h2.nul
  obtain ⟨e_v130, h2⟩ := h2.un
  obtain ⟨e_v131, h2⟩ := h2.bin
  obtain ⟨e_c_34, h2⟩ := h2.nul
  obtain ⟨e_v132, h2⟩ := h2.un
  obtain ⟨e_v133, h2⟩ := h2.bin
  obtain ⟨e_v134, h2⟩ := h2.bin
  obtain ⟨e_v135, h2⟩ := h2.bin
  obtain ⟨e_v136, h2⟩ := h2.un
  obtain ⟨e_v137, h2⟩ := h2.bin
  obtain ⟨e_v138, h2⟩ := h2.un
  obtain ⟨e_v139, h2⟩ := h2.bin
  obtain ⟨e_c_35, h2⟩ := h2.nul
  obtain ⟨e_v140, h2⟩ := h2.un
  obtain ⟨e_v141, h2⟩ := h2.bin
  have e_v142 := h2.lastBin
  obtain ⟨e_c_36, h3⟩ := h3.nul
  obtain ⟨e_v143, h3⟩ := h3.un
  obtain ⟨e_v144, h3⟩ := h3.bin
  obtain ⟨e_c_37, h3⟩ := h3.nul
  obtain ⟨e_v145, h3⟩ := h3.un
  obtain ⟨e_v146, h3⟩ := h3.bin
  obtain ⟨e_v147, h3⟩ := h3.bin
  obtain ⟨e_v148, h3⟩ := h3.bin
  obtain ⟨e_v149, h3⟩ := h3.bin
  obtain ⟨e_c_38, h3⟩ := h3.nul
  obtain ⟨e_v150, h3⟩ := h3.un
  obtain ⟨e_v151, h3⟩ := h3.bin
  obtain ⟨e_c_39, h3⟩ := h3.nul
  obtain ⟨e_v152, h3⟩ := h3.un
  obtain ⟨e_v153, h3⟩ := h3.bin
  obtain ⟨e_v154, h3⟩ := h3.bin
  obtain ⟨e_v155, h3⟩ := h3.bin
  obtain ⟨e_v156, h3⟩ := h3.bin
  obtain ⟨e_c_40, h3⟩ := h3.nul
  obtain ⟨e_v157, h3⟩ := h3.un
  obtain ⟨e_v158, h3⟩ := h3.bin
  obtain ⟨e_c_41, h3⟩ := h3.nul
  obtain ⟨e_v159, h3⟩ := h3.un
  obtain ⟨e_v160, h3⟩ := h3.bin
  obtain ⟨e_v161, h3⟩ := h3.bin
  obtain ⟨e_v162, h3⟩ := h3.bin
  obtain ⟨e_v163, h3⟩ := h3.bin
  obtain ⟨e_c_42, h3⟩ := h3.nul
  obtain ⟨e_v164, h3⟩ := h3.un
  obtain ⟨e_v165, h3⟩ := h3.bin
  obtain ⟨e_c_43, h3⟩ := h3.nul
  obtain ⟨e_v166, h3⟩ := h3.un
  obtain ⟨e_v167, h3⟩ := h3.bin
  obtain ⟨e_v168, h3⟩ := h3.bin
  obtain ⟨e_v169, h3⟩ := h3.bin
  obtain ⟨e_v170, h3⟩ := h3.un
  obtain ⟨e_v171, h3⟩ := h3.bin
  obtain ⟨e_v172, h3⟩ := h3.un
  obtain ⟨e_v173, h3⟩ := h3.bin
  obtain ⟨e_c_44, h3⟩ := h3.nul
  obtain ⟨e_v174, h3⟩ := h3.un
  obtain ⟨e_v175, h3⟩ := h3.bin
  have k2 := third e_v0 e_c e_v1
  have r := start e_v2 e_v3 e_v4 e_v5 i
  replace r := mix (by decide) e_v6 e_c_0 e_v7 e_v8 e_c_1 e_v9 e_v10 e_v11 e_v12 r
  replace r := mix (by decide) e_v13 e_c_2 e_v14 e_v15 e_c_3 e_v16 e_v17 e_v18 e_v19 r
  replace r := mix (by decide) e_v20 e_c_4 e_v21 e_v22 e_c_5 e_v23 e_v24 e_v25 e_v26 r
  replace r := mix (by decide) e_v27 e_c_6 e_v28 e_v29 e_c_7 e_v30 e_v31 e_v32 e_v33 r
  replace r := inj e_v34 e_v35 e_v36 e_v37 e_c_8 e_v38 e_v39 r
  replace r := mix (by decide) e_v40 e_c_9 e_v41 e_v42 e_c_10 e_v43 e_v44 e_v45 e_v46 r
  replace r := mix (by decide) e_v47 e_c_11 e_v48 e_v49 e_c_12 e_v50 e_v51 e_v52 e_v53 r
  replace r := mix (by decide) e_v54 e_c_13 e_v55 e_v56 e_c_14 e_v57 e_v58 e_v59 e_v60 r
  replace r := mix (by decide) e_v61 e_c_15 e_v62 e_v63 e_c_16 e_v64 e_v65 e_v66 e_v67 r
  replace r := inj e_v68 e_v69 e_v70 e_v71 e_c_17 e_v72 e_v73 r
  replace r := mix (by decide) e_v74 e_c_18 e_v75 e_v76 e_c_19 e_v77 e_v78 e_v79 e_v80 r
  replace r := mix (by decide) e_v81 e_c_20 e_v82 e_v83 e_c_21 e_v84 e_v85 e_v86 e_v87 r
  replace r := mix (by decide) e_v88 e_c_22 e_v89 e_v90 e_c_23 e_v91 e_v92 e_v93 e_v94 r
  replace r := mix (by decide) e_v95 e_c_24 e_v96 e_v97 e_c_25 e_v98 e_v99 e_v100 e_v101 r
  replace r := inj e_v102 e_v103 e_v104 e_v105 e_c_26 e_v106 e_v107 r
  replace r := mix (by decide) e_v108 e_c_27 e_v109 e_v110 e_c_28 e_v111 e_v112 e_v113 e_v114 r
  replace r := mix (by decide) e_v115 e_c_29 e_v116 e_v117 e_c_30 e_v118 e_v119 e_v120 e_v121 r
  replace r := mix (by decide) e_v122 e_c_31 e_v123 e_v124 e_c_32 e_v125 e_v126 e_v127 e_v128 r
  replace r := mix (by decide) e_v129 e_c_33 e_v130 e_v131 e_c_34 e_v132 e_v133 e_v134 e_v135 r
  replace r := inj e_v136 e_v137 e_v138 e_v139 e_c_35 e_v140 e_v141 r
  replace r := mix (by decide) e_v142 e_c_36 e_v143 e_v144 e_c_37 e_v145 e_v146 e_v147 e_v148 r
  replace r := mix (by decide) e_v149 e_c_38 e_v150 e_v151 e_c_39 e_v152 e_v153 e_v154 e_v155 r
  replace r := mix (by decide) e_v156 e_c_40 e_v157 e_v158 e_c_41 e_v159 e_v160 e_v161 e_v162 r
  replace r := mix (by decide) e_v163 e_c_42 e_v164 e_v165 e_c_43 e_v166 e_v167 e_v168 e_v169 r
  replace r := inj e_v170 e_v171 e_v172 e_v173 e_c_44 e_v174 e_v175 r
  rw [k2] at r
  exact r

end RefHash
-- ==== Proof.RefNoise.lean ====
module

public import proofs.«01_k».proof.Proof.RefHash
public import proofs.«01_k».proof.Proof.Spec

/-! The reference's random numbers: what its drawing functions leave at each position. -/

set_option maxRecDepth 100000

@[expose] public section

noncomputable section

namespace RefNoise

open Cert.ReferenceIdeal Cert.ReferenceIdeal.Gen Idealize.ShloMosaic Idealize.ShloMosaic.TcCoe Idealize.SL.Sem
open Line (Solves val)

variable {W : Valuation τ sig (Elt Ideal)}

/-- The uniform number drawn with the 23 bits `k`: between `t` and one. -/
def unif (one t : EReal) (k : BitVec 32) : EReal :=
  max t ((Ideal.ofBits FTy.f32 (IntOp.ori k 1065353216#32) - 1) * (one - t) + t)

/-- The noise drawn with the 23 bits `k`. -/
def noise (k : BitVec 32) : EReal :=
  FloatOps.negf (F := Ideal) (φ := .f32) (FloatOps.log (F := Ideal) (φ := .f32)
    (FloatOps.negf (F := Ideal) (φ := .f32) (FloatOps.log (F := Ideal) (φ := .f32)
      (unif (Ideal.ofBits FTy.f32 0x3F800000#32) (Ideal.ofBits FTy.f32 0x00800000#32) k))))

/-- The low word of a counter. -/
theorem low (x : Nat) (h : x < 2 ^ 32) : (BitVec.ofNat 64 x).setWidth 32 = BitVec.ofNat 32 x := by
  apply BitVec.eq_of_toNat_eq; simp

/-- The high word of a small counter is zero. -/
theorem high (x : Nat) (h : x < 2 ^ 32) : (BitVec.ofNat 64 x >>> (32#64).toNat).setWidth 32 = 0#32 := by
  have e : x % 2 ^ 64 = x := Nat.mod_eq_of_lt (by omega)
  apply BitVec.eq_of_toNat_eq
  simp [Nat.shiftRight_eq_div_pow]
  omega

set_option maxHeartbeats 4000000 in
/-- The uniform numbers of the four candidates. -/
theorem uniform4 {a0 : StableHlo.TRef sig ⟨S2, .i32⟩} {a1 a2 : StableHlo.TRef sig ⟨S_, .f32⟩} {φ : fn_uniform.Bufs}
    (h : Solves W (fn_uniform.body (F := Ideal) a0 a1 a2 φ)) {s : BitVec 32} (h0 : val W a0 (ix1 0) = 0#32) (h1 : val W a0 (ix1 1) = s)
    (r : Fin 16384) (j : Fin 128) (k : Fin 4) :
    val W φ.v37 (ix3 r j k) = unif (val W a1 ix0) (val W a2 ix0) (Spec.key s 4 (r.val * 128 + j.val) k.val) := by
  obtain ⟨e_v0, h⟩ := h.un
  obtain ⟨e_v1, h⟩ := h.un
  obtain ⟨e_v2, h⟩ := h.un
  obtain ⟨e_v3, h⟩ := h.un
  obtain ⟨e_v4, h⟩ := h.resh
  obtain ⟨e_v5, h⟩ := h.un
  obtain ⟨e_v6, h⟩ := h.resh
  obtain ⟨e_v7, h⟩ := h.nul
  obtain ⟨e_v8, h⟩ := h.nul
  obtain ⟨e_v9, h⟩ := h.nul
  obtain ⟨e_c, h⟩ := h.nul
  obtain ⟨e_v10, h⟩ := h.un
  obtain ⟨e_v11, h⟩ := h.bin
  obtain ⟨e_c_0, h⟩ := h.nul
  obtain ⟨e_v12, h⟩ := h.un
  obtain ⟨e_v13, h⟩ := h.bin
  obtain ⟨e_c_1, h⟩ := h.nul
  obtain ⟨e_v14, h⟩ := h.un
  obtain ⟨e_v15, h⟩ := h.bin
  obtain ⟨e_v16, h⟩ := h.bin
  obtain ⟨e_v17, h⟩ := h.bin
  obtain ⟨e_c_2, h⟩ := h.nul
  obtain ⟨e_v18, h⟩ := h.un
  obtain ⟨e_v19, h⟩ := h.bin
  obtain ⟨e_v20, h⟩ := h.un
  obtain ⟨e_v21, h⟩ := h.un
  obtain ⟨hc, h⟩ := h.both
  obtain ⟨e_v23, h⟩ := h.bin
  obtain ⟨e_c_3, h⟩ := h.nul
  obtain ⟨e_v24, h⟩ := h.un
  obtain ⟨e_v25, h⟩ := h.bin
  obtain ⟨e_c_4, h⟩ := h.nul
  obtain ⟨e_v26, h⟩ := h.un
  obtain ⟨e_v27, h⟩ := h.bin
  obtain ⟨e_v28, h⟩ := h.un
  obtain ⟨e_cst, h⟩ := h.nul
  obtain ⟨e_v29, h⟩ := h.un
  obtain ⟨e_v30, h⟩ := h.bin
  obtain ⟨e_v31, h⟩ := h.bin
  obtain ⟨e_v32, h⟩ := h.un
  obtain ⟨e_v33, h⟩ := h.bin
  obtain ⟨e_v34, h⟩ := h.un
  obtain ⟨e_v35, h⟩ := h.bin
  obtain ⟨e_v36, h⟩ := h.un
  obtain ⟨e_v37, h⟩ := h.bin
  clear h
  replace hc := RefHash.hash4 hc (ix3 r j k)
  have c0 : (val W φ.v4 ix0 : BitVec 32) = 0#32 := by
    have e_v4 : (val W φ.v4) = shapeCast S_ (val W φ.v3) shapeCasts_S1_S_ := e_v4
    rw [e_v4, e_v3, ← h0]
    pointwise []
  have c1 : (val W φ.v6 ix0 : BitVec 32) = s := by
    have e_v6 : (val W φ.v6) = shapeCast S_ (val W φ.v5) shapeCasts_S1_S_ := e_v6
    rw [e_v6, e_v5, ← h1]
    pointwise []
  have hx : (r.val * 128 + j.val) * 4 + k.val < 2 ^ 32 := by omega
  have c17 : (val W φ.v17 (ix3 r j k) : BitVec 64) = BitVec.ofNat 64 ((r.val * 128 + j.val) * 4 + k.val) := by
    rw [e_v17, e_v16, e_v15, e_v14, e_c_1, e_v13, e_v12, e_c_0, e_v11, e_v10, e_c, e_v9, e_v8, e_v7]
    pointwise []
    show 512#64 * BitVec.ofNat 64 r.val + 4#64 * BitVec.ofNat 64 j.val + 1#64 * BitVec.ofNat 64 k.val = _
    rw [← BitVec.ofNat_mul, ← BitVec.ofNat_mul, ← BitVec.ofNat_mul, ← BitVec.ofNat_add, ← BitVec.ofNat_add]
    congr 1
    ring
  have c20 : (val W φ.v20 (ix3 r j k) : BitVec 32) = BitVec.ofNat 32 ((r.val * 128 + j.val) * 4 + k.val) := by
    rw [e_v20]
    show (val W φ.v17 (ix3 r j k) : BitVec 64).setWidth 32 = _
    rw [c17, low _ hx]
  have c18 : (val W φ.v18 (ix3 r j k) : BitVec 64) = 32#64 := by
    rw [e_v18, e_c_2]
    pointwise []
  have c21 : (val W φ.v21 (ix3 r j k) : BitVec 32) = 0#32 := by
    rw [e_v21, e_v19]
    show (IntOp.shrui .host (val W φ.v17 (ix3 r j k) : BitVec 64) (val W φ.v18 (ix3 r j k) : BitVec 64)).setWidth 32 = _
    rw [c17, c18, ← high _ hx]
    rfl
  rw [c0, c1, c20, c21] at hc
  obtain ⟨d0, d1⟩ := Prod.mk.inj hc
  rw [e_v37, e_v36, e_v35, e_v34, e_v33, e_v32, e_v31, e_v30, e_v29, e_cst, e_v28, e_v27, e_v26, e_c_4, e_v25, e_v24, e_c_3, e_v23, e_v2, e_v1, e_v0]
  pointwise []
  rw [d0, d1]
  rfl

/-- The noise of the four candidates. -/
theorem gumbel4 {a0 : StableHlo.TRef sig ⟨S2, .i32⟩} {φ : fn_gumbel.Bufs}
    (h : Solves W (fn_gumbel.body (F := Ideal) a0 φ)) {s : BitVec 32} (h0 : val W a0 (ix1 0) = 0#32) (h1 : val W a0 (ix1 1) = s)
    (r : Fin 16384) (j : Fin 128) (k : Fin 4) :
    val W φ.v4 (ix3 r j k) = noise (Spec.key s 4 (r.val * 128 + j.val) k.val) := by
  obtain ⟨e_cst, h⟩ := h.nul
  obtain ⟨e_cst_0, h⟩ := h.nul
  obtain ⟨hc, h⟩ := h.both
  obtain ⟨e_v1, h⟩ := h.un
  obtain ⟨e_v2, h⟩ := h.un
  obtain ⟨e_v3, h⟩ := h.un
  obtain ⟨e_v4, h⟩ := h.un
  clear h
  replace hc := uniform4 hc h0 h1 r j k
  rw [e_cst, e_cst_0] at hc
  rw [e_v4, e_v3, e_v2, e_v1]
  unfold noise
  rw [show (unif (Ideal.ofBits FTy.f32 0x3F800000#32) (Ideal.ofBits FTy.f32 0x00800000#32) (Spec.key s 4 (r.val * 128 + j.val) k.val)) = _ from hc.symm]
  rfl

set_option maxHeartbeats 4000000 in
/-- The uniform numbers of the six candidates. -/
theorem uniform6 {a0 : StableHlo.TRef sig ⟨S2, .i32⟩} {a1 a2 : StableHlo.TRef sig ⟨S_, .f32⟩} {φ : fn_uniform_2.Bufs}
    (h : Solves W (fn_uniform_2.body (F := Ideal) a0 a1 a2 φ)) {s : BitVec 32} (h0 : val W a0 (ix1 0) = 0#32) (h1 : val W a0 (ix1 1) = s)
    (r : Fin 16384) (j : Fin 128) (k : Fin 6) :
    val W φ.v37 (ix3 r j k) = unif (val W a1 ix0) (val W a2 ix0) (Spec.key s 6 (r.val * 128 + j.val) k.val) := by
  obtain ⟨e_v0, h⟩ := h.un
  obtain ⟨e_v1, h⟩ := h.un
  obtain ⟨e_v2, h⟩ := h.un
  obtain ⟨e_v3, h⟩ := h.un
  obtain ⟨e_v4, h⟩ := h.resh
  obtain ⟨e_v5, h⟩ := h.un
  obtain ⟨e_v6, h⟩ := h.resh
  obtain ⟨e_v7, h⟩ := h.nul
  obtain ⟨e_v8, h⟩ := h.nul
  obtain ⟨e_v9, h⟩ := h.nul
  obtain ⟨e_c, h⟩ := h.nul
  obtain ⟨e_v10, h⟩ := h.un
  obtain ⟨e_v11, h⟩ := h.bin
  obtain ⟨e_c_0, h⟩ := h.nul
  obtain ⟨e_v12, h⟩ := h.un
  obtain ⟨e_v13, h⟩ := h.bin
  obtain ⟨e_c_1, h⟩ := h.nul
  obtain ⟨e_v14, h⟩ := h.un
  obtain ⟨e_v15, h⟩ := h.bin
  obtain ⟨e_v16, h⟩ := h.bin
  obtain ⟨e_v17, h⟩ := h.bin
  obtain ⟨e_c_2, h⟩ := h.nul
  obtain ⟨e_v18, h⟩ := h.un
  obtain ⟨e_v19, h⟩ := h.bin
  obtain ⟨e_v20, h⟩ := h.un
  obtain ⟨e_v21, h⟩ := h.un
  obtain ⟨hc, h⟩ := h.both
  obtain ⟨e_v23, h⟩ := h.bin
  obtain ⟨e_c_3, h⟩ := h.nul
  obtain ⟨e_v24, h⟩ := h.un
  obtain ⟨e_v25, h⟩ := h.bin
  obtain ⟨e_c_4, h⟩ := h.nul
  obtain ⟨e_v26, h⟩ := h.un
  obtain ⟨e_v27, h⟩ := h.bin
  obtain ⟨e_v28, h⟩ := h.un
  obtain ⟨e_cst, h⟩ := h.nul
  obtain ⟨e_v29, h⟩ := h.un
  obtain ⟨e_v30, h⟩ := h.bin
  obtain ⟨e_v31, h⟩ := h.bin
  obtain ⟨e_v32, h⟩ := h.un
  obtain ⟨e_v33, h⟩ := h.bin
  obtain ⟨e_v34, h⟩ := h.un
  obtain ⟨e_v35, h⟩ := h.bin
  obtain ⟨e_v36, h⟩ := h.un
  obtain ⟨e_v37, h⟩ := h.bin
  clear h
  replace hc := RefHash.hash6 hc (ix3 r j k)
  have c0 : (val W φ.v4 ix0 : BitVec 32) = 0#32 := by
    have e_v4 : (val W φ.v4) = shapeCast S_ (val W φ.v3) shapeCasts_S1_S_ := e_v4
    rw [e_v4, e_v3, ← h0]
    pointwise []
  have c1 : (val W φ.v6 ix0 : BitVec 32) = s := by
    have e_v6 : (val W φ.v6) = shapeCast S_ (val W φ.v5) shapeCasts_S1_S_ := e_v6
    rw [e_v6, e_v5, ← h1]
    pointwise []
  have hx : (r.val * 128 + j.val) * 6 + k.val < 2 ^ 32 := by omega
  have c17 : (val W φ.v17 (ix3 r j k) : BitVec 64) = BitVec.ofNat 64 ((r.val * 128 + j.val) * 6 + k.val) := by
    rw [e_v17, e_v16, e_v15, e_v14, e_c_1, e_v13, e_v12, e_c_0, e_v11, e_v10, e_c, e_v9, e_v8, e_v7]
    pointwise []
    show 768#64 * BitVec.ofNat 64 r.val + 6#64 * BitVec.ofNat 64 j.val + 1#64 * BitVec.ofNat 64 k.val = _
    rw [← BitVec.ofNat_mul, ← BitVec.ofNat_mul, ← BitVec.ofNat_mul, ← BitVec.ofNat_add, ← BitVec.ofNat_add]
    congr 1
    ring
  have c20 : (val W φ.v20 (ix3 r j k) : BitVec 32) = BitVec.ofNat 32 ((r.val * 128 + j.val) * 6 + k.val) := by
    rw [e_v20]
    show (val W φ.v17 (ix3 r j k) : BitVec 64).setWidth 32 = _
    rw [c17, low _ hx]
  have c18 : (val W φ.v18 (ix3 r j k) : BitVec 64) = 32#64 := by
    rw [e_v18, e_c_2]
    pointwise []
  have c21 : (val W φ.v21 (ix3 r j k) : BitVec 32) = 0#32 := by
    rw [e_v21, e_v19]
    show (IntOp.shrui .host (val W φ.v17 (ix3 r j k) : BitVec 64) (val W φ.v18 (ix3 r j k) : BitVec 64)).setWidth 32 = _
    rw [c17, c18, ← high _ hx]
    rfl
  rw [c0, c1, c20, c21] at hc
  obtain ⟨d0, d1⟩ := Prod.mk.inj hc
  rw [e_v37, e_v36, e_v35, e_v34, e_v33, e_v32, e_v31, e_v30, e_v29, e_cst, e_v28, e_v27, e_v26, e_c_4, e_v25, e_v24, e_c_3, e_v23, e_v2, e_v1, e_v0]
  pointwise []
  rw [d0, d1]
  rfl

/-- The noise of the six candidates. -/
theorem gumbel6 {a0 : StableHlo.TRef sig ⟨S2, .i32⟩} {φ : fn_gumbel_1.Bufs}
    (h : Solves W (fn_gumbel_1.body (F := Ideal) a0 φ)) {s : BitVec 32} (h0 : val W a0 (ix1 0) = 0#32) (h1 : val W a0 (ix1 1) = s)
    (r : Fin 16384) (j : Fin 128) (k : Fin 6) :
    val W φ.v4 (ix3 r j k) = noise (Spec.key s 6 (r.val * 128 + j.val) k.val) := by
  obtain ⟨e_cst, h⟩ := h.nul
  obtain ⟨e_cst_0, h⟩ := h.nul
  obtain ⟨hc, h⟩ := h.both
  obtain ⟨e_v1, h⟩ := h.un
  obtain ⟨e_v2, h⟩ := h.un
  obtain ⟨e_v3, h⟩ := h.un
  obtain ⟨e_v4, h⟩ := h.un
  clear h
  replace hc := uniform6 hc h0 h1 r j k
  rw [e_cst, e_cst_0] at hc
  rw [e_v4, e_v3, e_v2, e_v1]
  unfold noise
  rw [show (unif (Ideal.ofBits FTy.f32 0x3F800000#32) (Ideal.ofBits FTy.f32 0x00800000#32) (Spec.key s 6 (r.val * 128 + j.val) k.val)) = _ from hc.symm]
  rfl

end RefNoise
-- ==== Proof.NoiseOrder.lean ====
module

public import proofs.«01_k».proof.Proof.RefNoise

/-! The noise drawn with 23 random bits is a real number that grows strictly with the bits. -/

@[expose] public section

noncomputable section

namespace RefNoise

open Idealize.ShloMosaic

/-- The smallest uniform number. -/
def tiny : ℝ := (2 : ℝ) ^ (-126 : ℤ)

/-- The smallest uniform number is positive. -/
theorem tiny_pos : 0 < tiny := by unfold tiny; positivity

/-- The smallest uniform number is below one. -/
theorem tiny_lt : tiny < 1 := by unfold tiny; norm_num

/-- The uniform number for the bits `n`. -/
def U (n : ℕ) : ℝ := (n : ℝ) / 2 ^ 23 * (1 - tiny) + tiny

/-- The noise for the bits `n`. -/
def G (n : ℕ) : ℝ := -Real.log (-Real.log (U n))

/-- No uniform number is below the smallest. -/
theorem U_ge (n : ℕ) : tiny ≤ U n := by
  have : 0 ≤ (n : ℝ) / 2 ^ 23 * (1 - tiny) := mul_nonneg (by positivity) (by linarith [tiny_lt])
  unfold U; linarith

/-- Every uniform number is positive. -/
theorem U_pos (n : ℕ) : 0 < U n := lt_of_lt_of_le tiny_pos (U_ge n)

/-- Every uniform number is below one. -/
theorem U_lt (n : ℕ) (h : n < 2 ^ 23) : U n < 1 := by
  have h1 : (n : ℝ) / 2 ^ 23 < 1 := by
    rw [div_lt_one (by positivity)]; exact_mod_cast h
  have h2 : (n : ℝ) / 2 ^ 23 * (1 - tiny) < 1 * (1 - tiny) := mul_lt_mul_of_pos_right h1 (by linarith [tiny_lt])
  unfold U; linarith

/-- Greater bits give a greater uniform number. -/
theorem U_mono {a b : ℕ} (h : a < b) : U a < U b := by
  have h1 : (a : ℝ) < b := by exact_mod_cast h
  have h2 : (a : ℝ) / 2 ^ 23 < (b : ℝ) / 2 ^ 23 := div_lt_div_of_pos_right h1 (by positivity)
  have h3 := mul_lt_mul_of_pos_right h2 (show 0 < 1 - tiny by linarith [tiny_lt])
  unfold U; linarith

/-- The logarithm of a uniform number is negative. -/
theorem log_U_neg (n : ℕ) (h : n < 2 ^ 23) : Real.log (U n) < 0 := Real.log_neg (U_pos n) (U_lt n h)

/-- More bits, more noise. -/
theorem G_mono {a b : ℕ} (h : a < b) (hb : b < 2 ^ 23) : G a < G b := by
  have h1 := Real.log_lt_log (U_pos a) (U_mono h)
  have h2 := Real.log_lt_log (show 0 < -Real.log (U b) by linarith [log_U_neg b hb]) (neg_lt_neg h1)
  unfold G; linarith

/-- A word with the exponent of one and the fraction `k` is one plus that fraction. -/
theorem ofBits_key (k : BitVec 32) (h : k.toNat < 2 ^ 23) :
    Ideal.ofBits .f32 (IntOp.ori k 1065353216#32) = ((1 + (k.toNat : ℝ) / 2 ^ 23 : ℝ) : EReal) := by
  have e : (IntOp.ori k 1065353216#32 : BitVec 32).toNat = 2 ^ 23 * 127 + k.toNat := by
    rw [Nat.two_pow_add_eq_or_of_lt h]
    simp [IntOp.ori, Nat.or_comm]
  have e1 : ((IntOp.ori k 1065353216#32 : BitVec 32).extractLsb' 23 8).toNat = 127 := by
    rw [BitVec.extractLsb'_toNat, e, Nat.shiftRight_eq_div_pow]; omega
  have e2 : ((IntOp.ori k 1065353216#32 : BitVec 32).extractLsb' 0 23).toNat = k.toNat := by
    rw [BitVec.extractLsb'_toNat, e, Nat.shiftRight_eq_div_pow]; omega
  have e3 : ((IntOp.ori k 1065353216#32 : BitVec 32).extractLsb' 31 1) = 0#1 := by
    apply BitVec.eq_of_toNat_eq
    rw [BitVec.extractLsb'_toNat, e, Nat.shiftRight_eq_div_pow]
    simp; omega
  unfold Ideal.ofBits Ideal.ieee
  simp only [e1, e2, Nat.reduceAdd, e3]
  norm_num
  norm_cast
  push_cast
  norm_num
  ring

/-- The word of the number one. -/
theorem ofBits_one : Ideal.ofBits .f32 0x3F800000#32 = ((1 : ℝ) : EReal) := by
  simp [Ideal.ofBits, Ideal.ieee, -EReal.coe_mul]; norm_num

/-- The word of the smallest uniform number. -/
theorem ofBits_tiny : Ideal.ofBits .f32 0x00800000#32 = ((tiny : ℝ) : EReal) := by
  simp [Ideal.ofBits, Ideal.ieee, -EReal.coe_mul, tiny]; norm_num

/-- The logarithm of a positive real number is its real logarithm. -/
theorem log_coe (x : ℝ) (h : 0 < x) : Ideal.log (x : EReal) = ((Real.log x : ℝ) : EReal) := by
  show (if x ≤ 0 then (⊥ : EReal) else ((Real.log x : ℝ) : EReal)) = _
  rw [if_neg (not_le.mpr h)]

/-- The uniform number is the real one. -/
theorem unif_eq (k : BitVec 32) (h : k.toNat < 2 ^ 23) :
    unif (Ideal.ofBits .f32 0x3F800000#32) (Ideal.ofBits .f32 0x00800000#32) k = ((U k.toNat : ℝ) : EReal) := by
  rw [unif, ofBits_key k h, ofBits_one, ofBits_tiny]
  have e : (((1 + (k.toNat : ℝ) / 2 ^ 23 : ℝ) : EReal) - 1) * (((1 : ℝ) : EReal) - ((tiny : ℝ) : EReal)) + ((tiny : ℝ) : EReal)
      = ((U k.toNat : ℝ) : EReal) := by
    rw [show (1 : EReal) = ((1 : ℝ) : EReal) from rfl, ← EReal.coe_sub, ← EReal.coe_sub, ← EReal.coe_mul, ← EReal.coe_add]
    congr 1
    unfold U; ring
  rw [e]
  exact max_eq_right (EReal.coe_le_coe_iff.mpr (U_ge _))

/-- The noise is the real one. -/
theorem noise_eq (k : BitVec 32) (h : k.toNat < 2 ^ 23) : noise k = ((G k.toNat : ℝ) : EReal) := by
  rw [noise, unif_eq k h]
  simp only [Ideal.log_def, Ideal.negf_def]
  rw [log_coe _ (U_pos _), ← EReal.coe_neg, log_coe _ (by linarith [log_U_neg _ h]), ← EReal.coe_neg]
  rfl

/-- A random key has 23 bits. -/
theorem key_lt (s : BitVec 32) (n p m : ℕ) : (Spec.key s n p m).toNat < 2 ^ 23 := by
  unfold Spec.key Threefry.bits
  rw [BitVec.toNat_ushiftRight, Nat.shiftRight_eq_div_pow]
  omega

end RefNoise
-- ==== Proof.RefPick.lean ====
module

public import proofs.«01_k».proof.Proof.Read
public import proofs.«01_k».proof.Proof.Spec
public import proofs.«01_k».proof.Proof.Gen.ReferenceIdeal
public import Idealize.ShloMosaic.PureOps.Ideal.Laws

/-! The reference's choice among candidates: the position of the greatest value, and its indicator. -/

set_option maxRecDepth 100000

@[expose] public section

noncomputable section

namespace RefPick

open Cert.ReferenceIdeal Cert.ReferenceIdeal.Gen Idealize.ShloMosaic Idealize.ShloMosaic.TcCoe Idealize.SL.Sem
open Line (Solves val)

/-- `q` does not come before `p`: its value is smaller, or the same at a later position. -/
def After (p q : EReal × BitVec 32) : Prop := q.1 < p.1 ∨ (q.1 = p.1 ∧ p.2.toInt ≤ q.2.toInt)

/-- Coming after is transitive. -/
theorem After.trans {p q r : EReal × BitVec 32} (h : After p q) (h' : After q r) : After p r := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- Every pair comes after itself. -/
theorem After.refl (p : EReal × BitVec 32) : After p p := .inr ⟨rfl, le_refl _⟩

/-- The reducer returns one of its two pairs, and neither comes before it. -/
theorem reducer_spec (a b : EReal × BitVec 32) :
    (reducer_argmax_f32_i32 (F := Ideal) a b = a ∨ reducer_argmax_f32_i32 (F := Ideal) a b = b)
      ∧ After (reducer_argmax_f32_i32 (F := Ideal) a b) a ∧ After (reducer_argmax_f32_i32 (F := Ideal) a b) b := by
  obtain ⟨x, m⟩ := a
  obtain ⟨y, n⟩ := b
  have e : reducer_argmax_f32_i32 (F := Ideal) (x, m) (y, n) =
      (if y < x then x else y, if y < x ∨ (x = y ∧ m.toInt < n.toInt) then m else n) := by
    unfold reducer_argmax_f32_i32
    simp only [Ideal.cmpf_def, Ideal.cmp, IntOp.ori, IntOp.andi, IntOp.cmpi, Scalar.select, BitVec.slt]
    by_cases h1 : y < x <;> by_cases h2 : x = y <;> by_cases h3 : m.toInt < n.toInt <;> simp [h1, h2, h3]
  rw [e]
  rcases lt_trichotomy y x with h | h | h
  · simp only [h, if_true, true_or]
    exact ⟨by simp, .refl _, .inl h⟩
  · subst h
    by_cases h3 : m.toInt < n.toInt
    · simp only [lt_irrefl, h3, if_true, if_false]
      exact ⟨.inl (by simp), by simp [After], by simp [After, h3.le]⟩
    · simp only [lt_irrefl, h3, if_false]
      exact ⟨.inr (by simp), by simp [After, not_lt.mp h3], by simp [After]⟩
  · have h4 : ¬ y < x := not_lt.mpr h.le
    have h5 : x ≠ y := h.ne
    simp only [h4, h5, if_false, false_and, or_self]
    exact ⟨by simp, .inl h, .refl _⟩

/-- A fold of the reducer returns its start or a member, and none of these comes before it. -/
theorem fold_spec (l : List (EReal × BitVec 32)) : ∀ a,
    (l.foldl (reducer_argmax_f32_i32 (F := Ideal)) a = a ∨ l.foldl (reducer_argmax_f32_i32 (F := Ideal)) a ∈ l)
      ∧ After (l.foldl (reducer_argmax_f32_i32 (F := Ideal)) a) a
      ∧ ∀ b ∈ l, After (l.foldl (reducer_argmax_f32_i32 (F := Ideal)) a) b := by
  induction l with
  | nil => exact fun a => ⟨.inl rfl, .refl _, fun b hb => absurd hb (by simp)⟩
  | cons b l ih =>
    intro a
    obtain ⟨h1, h2, h3⟩ := ih (reducer_argmax_f32_i32 (F := Ideal) a b)
    obtain ⟨g1, g2, g3⟩ := reducer_spec a b
    rw [List.foldl_cons]
    refine ⟨?_, h2.trans g2, fun c hc => ?_⟩
    · rcases h1 with h1 | h1
      · rcases g1 with g1 | g1
        · exact .inl (h1.trans g1)
        · exact .inr (by rw [h1, g1]; simp)
      · exact .inr (by simp [h1])
    · rcases List.mem_cons.mp hc with rfl | hc
      · exact h2.trans g3
      · exact h3 c hc

variable {W : Valuation τ sig (Elt Ideal)}

/-- The word of minus infinity. -/
theorem ofBits_bot : Ideal.ofBits .f32 0xFF800000#32 = (⊥ : EReal) := by
  simp [Ideal.ofBits, Ideal.ieee]

/-- The first greatest among `n` real numbers, as a position. -/
def First {n : ℕ} (x : Fin n → ℝ) (m : Fin n) : Prop := ∀ k, x k < x m ∨ (x k = x m ∧ m.val ≤ k.val)

/-- The position the reference finds among four real numbers. -/
theorem argmax4 {a0 : StableHlo.TRef sig ⟨S16384x128x4, .f32⟩} {φ : fn_argmax.Bufs} (h : Solves W (fn_argmax.body (F := Ideal) a0 φ))
    (r : Fin 16384) (j : Fin 128) {x : Fin 4 → ℝ} (hx : ∀ k, val W a0 (ix3 r j k) = ((x k : ℝ) : EReal)) :
    ∃ m : Fin 4, val W φ.v1_1 (ix2 r j) = BitVec.ofNat 32 m.val ∧ First x m := by
  obtain ⟨e_v0, h⟩ := h.nul
  obtain ⟨e_cst, h⟩ := h.nul
  obtain ⟨e_c, h⟩ := h.nul
  obtain ⟨e_0, h⟩ := h.quat
  obtain ⟨e_1, h⟩ := h.quat
  clear h e_0
  rw [e_1, e_v0, e_cst, e_c]
  show ∃ m : Fin 4, (Host.argReduce (F := Ideal) (φ := .f32) reducer_argmax_f32_i32 (val W a0) (iotaInDim S16384x128x4 32 2) (constant S_ .f32 0xFF800000#32)
    (constantI S_ 32 0#32) reducesTo_S16384x128x4_S16384x128_d2 h_S_ (ix2 r j)).2 = BitVec.ofNat 32 m.val ∧ _
  rw [Ideal.argReduce_eq_reduce2, Host.reduce2_eq_foldl_fiber]
  have hm : ∀ p : EReal × BitVec 32, p ∈ Host.argReduceFiber (val W a0 : S16384x128x4.Idx → EReal) (iotaInDim S16384x128x4 32 2 : S16384x128x4.Idx → BitVec 32)
      reducesTo_S16384x128x4_S16384x128_d2 (ix2 r j) ↔ ∃ k : Fin 4, p = ((x k : EReal), BitVec.ofNat 32 k.val) := by
    intro p
    unfold Host.argReduceFiber
    simp only [List.mem_map, List.mem_filter, List.mem_finRange, true_and, decide_eq_true_eq]
    constructor
    · rintro ⟨n, hn, rfl⟩
      generalize S16384x128x4.rowMajor.symm n = i at hn ⊢
      idx_vars i
      have h0 := congrArg Fin.val (congrFun hn 0)
      have h1 := congrArg Fin.val (congrFun hn 1)
      have g0 : i0 = r := Fin.ext ((Shape.ReducesTo.drop_apply_val_of_eq reducesTo_S16384x128x4_S16384x128_d2 (ix3 i0 i1 i2) (0 : Fin 2) (0 : Fin 3)).symm.trans h0)
      have g1 : i1 = j := Fin.ext ((Shape.ReducesTo.drop_apply_val_of_eq reducesTo_S16384x128x4_S16384x128_d2 (ix3 i0 i1 i2) (1 : Fin 2) (1 : Fin 3)).symm.trans h1)
      subst g0 g1
      exact ⟨i2, by rw [hx]; rfl⟩
    · rintro ⟨k, rfl⟩
      refine ⟨S16384x128x4.rowMajor (ix3 r j k), ?_, ?_⟩
      · rw [Equiv.symm_apply_apply]
        funext b
        apply Fin.ext
        fin_cases b
        · exact Shape.ReducesTo.drop_apply_val_of_eq reducesTo_S16384x128x4_S16384x128_d2 (ix3 r j k) (0 : Fin 2) (0 : Fin 3)
        · exact Shape.ReducesTo.drop_apply_val_of_eq reducesTo_S16384x128x4_S16384x128_d2 (ix3 r j k) (1 : Fin 2) (1 : Fin 3)
      · rw [Equiv.symm_apply_apply, hx]
        rfl
  generalize Host.argReduceFiber (val W a0 : S16384x128x4.Idx → EReal) (iotaInDim S16384x128x4 32 2 : S16384x128x4.Idx → BitVec 32)
      reducesTo_S16384x128x4_S16384x128_d2 (ix2 r j) = l at hm
  obtain ⟨h1, h2, h3⟩ := fold_spec l ((⊥ : EReal), 0#32)
  have e : ((constant S_ .f32 0xFF800000#32 : FVec Ideal S_ .f32) (Shape.Idx.first h_S_), (constantI S_ 32 0#32) (Shape.Idx.first h_S_))
      = ((⊥ : EReal), 0#32) := Prod.ext ofBits_bot rfl
  rw [e]
  rcases h1 with h1 | h1
  · have := h3 _ ((hm _).mpr ⟨0, rfl⟩)
    rw [h1] at this
    rcases this with this | ⟨this, _⟩
    · exact absurd this not_lt_bot
    · exact absurd this (EReal.coe_ne_bot _)
  · obtain ⟨m, hk⟩ := (hm _).mp h1
    refine ⟨m, congrArg Prod.snd hk, fun k => ?_⟩
    have := h3 _ ((hm _).mpr ⟨k, rfl⟩)
    rw [hk] at this
    rcases this with this | ⟨this, g⟩
    · exact .inl (EReal.coe_lt_coe_iff.mp this)
    · refine .inr ⟨EReal.coe_eq_coe_iff.mp this, ?_⟩
      have t : ∀ k : Fin 4, (BitVec.ofNat 32 k.val).toInt = k.val := by decide
      simp only [t] at g
      exact_mod_cast g

/-- The indicator of a position among four. -/
theorem oneHot4 {a0 : StableHlo.TRef sig ⟨S16384x128, .i32⟩} {φ : fn_one_hot.Bufs} (h : Solves W (fn_one_hot.body (F := Ideal) a0 φ))
    (r : Fin 16384) (j : Fin 128) {m : Fin 4} (hm : val W a0 (ix2 r j) = BitVec.ofNat 32 m.val) (k : Fin 4) :
    val W φ.v5 (ix3 r j k) = if k = m then (1 : EReal) else 0 := by
  obtain ⟨e_v0, h⟩ := h.un
  obtain ⟨e_v1, h⟩ := h.nul
  obtain ⟨e_v2, h⟩ := h.un
  obtain ⟨e_v3, h⟩ := h.un
  obtain ⟨e_v4, h⟩ := h.bin
  obtain ⟨e_v5, h⟩ := h.un
  clear h
  rw [e_v5, e_v4, e_v3, e_v2, e_v1, e_v0]
  pointwise []
  rw [hm]
  have t : ∀ m k : Fin 4, IntOp.cmpi .eq (BitVec.ofNat 32 m.val) (BitVec.ofNat 32 k.val) = if k = m then 1#1 else 0#1 := by decide
  rw [t]
  by_cases hk : k = m
  · rw [if_pos hk, if_pos hk]
    show (((1#1).toNat : ℝ) : EReal) = 1
    norm_num
  · rw [if_neg hk, if_neg hk]
    show (((0#1).toNat : ℝ) : EReal) = 0
    norm_num

/-- The position the reference finds among six real numbers. -/
theorem argmax6 {a0 : StableHlo.TRef sig ⟨S16384x128x6, .f32⟩} {φ : fn_argmax_4.Bufs} (h : Solves W (fn_argmax_4.body (F := Ideal) a0 φ))
    (r : Fin 16384) (j : Fin 128) {x : Fin 6 → ℝ} (hx : ∀ k, val W a0 (ix3 r j k) = ((x k : ℝ) : EReal)) :
    ∃ m : Fin 6, val W φ.v1_1 (ix2 r j) = BitVec.ofNat 32 m.val ∧ First x m := by
  obtain ⟨e_v0, h⟩ := h.nul
  obtain ⟨e_cst, h⟩ := h.nul
  obtain ⟨e_c, h⟩ := h.nul
  obtain ⟨e_0, h⟩ := h.quat
  obtain ⟨e_1, h⟩ := h.quat
  clear h e_0
  rw [e_1, e_v0, e_cst, e_c]
  show ∃ m : Fin 6, (Host.argReduce (F := Ideal) (φ := .f32) reducer_argmax_f32_i32 (val W a0) (iotaInDim S16384x128x6 32 2) (constant S_ .f32 0xFF800000#32)
    (constantI S_ 32 0#32) reducesTo_S16384x128x6_S16384x128_d2 h_S_ (ix2 r j)).2 = BitVec.ofNat 32 m.val ∧ _
  rw [Ideal.argReduce_eq_reduce2, Host.reduce2_eq_foldl_fiber]
  have hm : ∀ p : EReal × BitVec 32, p ∈ Host.argReduceFiber (val W a0 : S16384x128x6.Idx → EReal) (iotaInDim S16384x128x6 32 2 : S16384x128x6.Idx → BitVec 32)
      reducesTo_S16384x128x6_S16384x128_d2 (ix2 r j) ↔ ∃ k : Fin 6, p = ((x k : EReal), BitVec.ofNat 32 k.val) := by
    intro p
    unfold Host.argReduceFiber
    simp only [List.mem_map, List.mem_filter, List.mem_finRange, true_and, decide_eq_true_eq]
    constructor
    · rintro ⟨n, hn, rfl⟩
      generalize S16384x128x6.rowMajor.symm n = i at hn ⊢
      idx_vars i
      have h0 := congrArg Fin.val (congrFun hn 0)
      have h1 := congrArg Fin.val (congrFun hn 1)
      have g0 : i0 = r := Fin.ext ((Shape.ReducesTo.drop_apply_val_of_eq reducesTo_S16384x128x6_S16384x128_d2 (ix3 i0 i1 i2) (0 : Fin 2) (0 : Fin 3)).symm.trans h0)
      have g1 : i1 = j := Fin.ext ((Shape.ReducesTo.drop_apply_val_of_eq reducesTo_S16384x128x6_S16384x128_d2 (ix3 i0 i1 i2) (1 : Fin 2) (1 : Fin 3)).symm.trans h1)
      subst g0 g1
      exact ⟨i2, by rw [hx]; rfl⟩
    · rintro ⟨k, rfl⟩
      refine ⟨S16384x128x6.rowMajor (ix3 r j k), ?_, ?_⟩
      · rw [Equiv.symm_apply_apply]
        funext b
        apply Fin.ext
        fin_cases b
        · exact Shape.ReducesTo.drop_apply_val_of_eq reducesTo_S16384x128x6_S16384x128_d2 (ix3 r j k) (0 : Fin 2) (0 : Fin 3)
        · exact Shape.ReducesTo.drop_apply_val_of_eq reducesTo_S16384x128x6_S16384x128_d2 (ix3 r j k) (1 : Fin 2) (1 : Fin 3)
      · rw [Equiv.symm_apply_apply, hx]
        rfl
  generalize Host.argReduceFiber (val W a0 : S16384x128x6.Idx → EReal) (iotaInDim S16384x128x6 32 2 : S16384x128x6.Idx → BitVec 32)
      reducesTo_S16384x128x6_S16384x128_d2 (ix2 r j) = l at hm
  obtain ⟨h1, h2, h3⟩ := fold_spec l ((⊥ : EReal), 0#32)
  have e : ((constant S_ .f32 0xFF800000#32 : FVec Ideal S_ .f32) (Shape.Idx.first h_S_), (constantI S_ 32 0#32) (Shape.Idx.first h_S_))
      = ((⊥ : EReal), 0#32) := Prod.ext ofBits_bot rfl
  rw [e]
  rcases h1 with h1 | h1
  · have := h3 _ ((hm _).mpr ⟨0, rfl⟩)
    rw [h1] at this
    rcases this with this | ⟨this, _⟩
    · exact absurd this not_lt_bot
    · exact absurd this (EReal.coe_ne_bot _)
  · obtain ⟨m, hk⟩ := (hm _).mp h1
    refine ⟨m, congrArg Prod.snd hk, fun k => ?_⟩
    have := h3 _ ((hm _).mpr ⟨k, rfl⟩)
    rw [hk] at this
    rcases this with this | ⟨this, g⟩
    · exact .inl (EReal.coe_lt_coe_iff.mp this)
    · refine .inr ⟨EReal.coe_eq_coe_iff.mp this, ?_⟩
      have t : ∀ k : Fin 6, (BitVec.ofNat 32 k.val).toInt = k.val := by decide
      simp only [t] at g
      exact_mod_cast g

/-- The indicator of a position among six. -/
theorem oneHot6 {a0 : StableHlo.TRef sig ⟨S16384x128, .i32⟩} {φ : fn_one_hot_5.Bufs} (h : Solves W (fn_one_hot_5.body (F := Ideal) a0 φ))
    (r : Fin 16384) (j : Fin 128) {m : Fin 6} (hm : val W a0 (ix2 r j) = BitVec.ofNat 32 m.val) (k : Fin 6) :
    val W φ.v5 (ix3 r j k) = if k = m then (1 : EReal) else 0 := by
  obtain ⟨e_v0, h⟩ := h.un
  obtain ⟨e_v1, h⟩ := h.nul
  obtain ⟨e_v2, h⟩ := h.un
  obtain ⟨e_v3, h⟩ := h.un
  obtain ⟨e_v4, h⟩ := h.bin
  obtain ⟨e_v5, h⟩ := h.un
  clear h
  rw [e_v5, e_v4, e_v3, e_v2, e_v1, e_v0]
  pointwise []
  rw [hm]
  have t : ∀ m k : Fin 6, IntOp.cmpi .eq (BitVec.ofNat 32 m.val) (BitVec.ofNat 32 k.val) = if k = m then 1#1 else 0#1 := by decide
  rw [t]
  by_cases hk : k = m
  · rw [if_pos hk, if_pos hk]
    show (((1#1).toNat : ℝ) : EReal) = 1
    norm_num
  · rw [if_neg hk, if_neg hk]
    show (((0#1).toNat : ℝ) : EReal) = 0
    norm_num

end RefPick
-- ==== Proof.PickFirst.lean ====
module

public import proofs.«01_k».proof.Proof.Spec

/-! The choice by the greatest key, read at the position of the first greatest key. -/

@[expose] public section

noncomputable section

namespace PickFirst

open Idealize.ShloMosaic

/-- The signed maximum of two small words is their maximum as numbers. -/
theorem maxsi_toNat {a b : BitVec 32} (ha : a.toNat < 2 ^ 23) (hb : b.toNat < 2 ^ 23) :
    (IntOp.maxsi a b).toNat = max a.toNat b.toNat := by
  have e1 : a.toInt = a.toNat := BitVec.toInt_eq_toNat_of_lt (by omega)
  have e2 : b.toInt = b.toNat := BitVec.toInt_eq_toNat_of_lt (by omega)
  unfold IntOp.maxsi
  simp only [BitVec.slt, e1, e2, decide_eq_true_eq, Nat.cast_lt]
  split_ifs with h <;> omega

/-- The maximum of two small words is small. -/
theorem maxsi_lt {a b : BitVec 32} (ha : a.toNat < 2 ^ 23) (hb : b.toNat < 2 ^ 23) : (IntOp.maxsi a b).toNat < 2 ^ 23 := by
  rw [maxsi_toNat ha hb]; omega

/-- `m` is the first position whose key is the greatest. -/
def Best {n : ℕ} (K : Fin n → BitVec 32) (m : Fin n) : Prop :=
  ∀ k, (K k).toNat < (K m).toNat ∨ ((K k).toNat = (K m).toNat ∧ m.val ≤ k.val)

/-- No earlier key equals the greatest. -/
theorem Best.ne {n : ℕ} {K : Fin n → BitVec 32} {m : Fin n} (hm : Best K m) (k : Fin n) (hk : k.val < m.val) : K k ≠ K m := by
  intro e
  have := hm k
  rw [e] at this
  omega

/-- The choice among four. -/
theorem pick4_eq {K : Fin 4 → BitVec 32} (hK : ∀ k, (K k).toNat < 2 ^ 23) (v : Fin 4 → EReal) {m : Fin 4} (hm : Best K m) :
    Spec.pick4 K v = v m := by
  have h01 := maxsi_lt (hK 0) (hK 1)
  have h02 := maxsi_lt h01 (hK 2)
  have hM : IntOp.maxsi (IntOp.maxsi (IntOp.maxsi (K 0) (K 1)) (K 2)) (K 3) = K m := by
    apply BitVec.eq_of_toNat_eq
    rw [maxsi_toNat h02 (hK 3), maxsi_toNat h01 (hK 2), maxsi_toNat (hK 0) (hK 1)]
    have t : ∀ m : Fin 4, m = 0 ∨ m = 1 ∨ m = 2 ∨ m = 3 := by decide
    have := hm 0
    have := hm 1
    have := hm 2
    have := hm 3
    rcases t m with rfl | rfl | rfl | rfl <;> omega
  unfold Spec.pick4
  rw [hM]
  have t : ∀ m : Fin 4, m = 0 ∨ m = 1 ∨ m = 2 ∨ m = 3 := by decide
  rcases t m with rfl | rfl | rfl | rfl
  · rw [if_pos rfl]
  · rw [if_neg (hm.ne 0 (by decide)), if_pos rfl]
  · rw [if_neg (hm.ne 0 (by decide)), if_neg (hm.ne 1 (by decide)), if_pos rfl]
  · rw [if_neg (hm.ne 0 (by decide)), if_neg (hm.ne 1 (by decide)), if_neg (hm.ne 2 (by decide))]

/-- The choice among six. -/
theorem pick6_eq {K : Fin 6 → BitVec 32} (hK : ∀ k, (K k).toNat < 2 ^ 23) (v : Fin 6 → EReal) {m : Fin 6} (hm : Best K m) :
    Spec.pick6 K v = v m := by
  have t : ∀ m : Fin 6, m = 0 ∨ m = 1 ∨ m = 2 ∨ m = 3 ∨ m = 4 ∨ m = 5 := by decide
  have h01 := maxsi_lt (hK 0) (hK 1)
  have h02 := maxsi_lt h01 (hK 2)
  have h03 := maxsi_lt h02 (hK 3)
  have h04 := maxsi_lt h03 (hK 4)
  have hM : Spec.best6 K = K m := by
    apply BitVec.eq_of_toNat_eq
    unfold Spec.best6
    rw [maxsi_toNat h04 (hK 5), maxsi_toNat h03 (hK 4), maxsi_toNat h02 (hK 3), maxsi_toNat h01 (hK 2), maxsi_toNat (hK 0) (hK 1)]
    have := hm 0
    have := hm 1
    have := hm 2
    have := hm 3
    have := hm 4
    have := hm 5
    rcases t m with rfl | rfl | rfl | rfl | rfl | rfl <;> omega
  unfold Spec.pick6
  rw [hM]
  rcases t m with rfl | rfl | rfl | rfl | rfl | rfl
  · rw [if_pos rfl]
  · rw [if_neg (hm.ne 0 (by decide)), if_pos rfl]
  · rw [if_neg (hm.ne 0 (by decide)), if_neg (hm.ne 1 (by decide)), if_pos rfl]
  · rw [if_neg (hm.ne 0 (by decide)), if_neg (hm.ne 1 (by decide)), if_neg (hm.ne 2 (by decide)), if_pos rfl]
  · rw [if_neg (hm.ne 0 (by decide)), if_neg (hm.ne 1 (by decide)), if_neg (hm.ne 2 (by decide)), if_neg (hm.ne 3 (by decide)), if_pos rfl]
  · rw [if_neg (hm.ne 0 (by decide)), if_neg (hm.ne 1 (by decide)), if_neg (hm.ne 2 (by decide)), if_neg (hm.ne 3 (by decide)),
      if_neg (hm.ne 4 (by decide))]

/-- A sum against the indicator of a position is the term there. -/
theorem sum_indicator {n : ℕ} (v : Fin n → EReal) (m : Fin n) : ∑ k, v k * (if k = m then (1 : EReal) else 0) = v m := by
  simp [mul_ite]

end PickFirst
-- ==== Proof.RefValue.lean ====
module

public import proofs.«01_k».proof.Proof.RefNoise
public import proofs.«01_k».proof.Proof.NoiseOrder
public import proofs.«01_k».proof.Proof.RefPick
public import proofs.«01_k».proof.Proof.PickFirst

/-! What the reference's buffers hold, for arguments that mark every candidate available and carry no bias. -/

set_option maxRecDepth 100000

@[expose] public section

noncomputable section

namespace RefValue

open Cert.ReferenceIdeal Cert.ReferenceIdeal.Gen Idealize.ShloMosaic Idealize.ShloMosaic.TcCoe Idealize.SL.Sem
open Line (Solves val at')

variable {W : Valuation τ sig (Elt Ideal)}

/-- The word of the number four. -/
theorem ofBits_four : Ideal.ofBits .f32 0x40800000#32 = ((4 : ℝ) : EReal) := by
  (simp [Ideal.ofBits, Ideal.ieee, -EReal.coe_mul]; norm_num)

/-- The word of the number six. -/
theorem ofBits_six : Ideal.ofBits .f32 0x40C00000#32 = ((6 : ℝ) : EReal) := by
  (simp [Ideal.ofBits, Ideal.ieee, -EReal.coe_mul]; norm_num)

/-- The quotient of a real number by a positive one. -/
theorem div_coe (p q : ℝ) (hq : 0 < q) : Ideal.div ((p : ℝ) : EReal) ((q : ℝ) : EReal) = ((p * q⁻¹ : ℝ) : EReal) := by
  unfold Ideal.div
  rw [if_neg (by exact_mod_cast hq.ne'), EReal.coe_mul, EReal.coe_inv]

/-- The reciprocal of a positive real number. -/
theorem div_one (q : ℝ) (hq : 0 < q) : Ideal.div 1 ((q : ℝ) : EReal) = ((q⁻¹ : ℝ) : EReal) := by
  rw [show (1 : EReal) = ((1 : ℝ) : EReal) from rfl, div_coe _ _ hq, one_mul]

/-- The logit of four equal weights. -/
theorem logit4 : Ideal.log (Ideal.div ((4⁻¹ : ℝ) : EReal) (∑ _x : Fin 4, ((4⁻¹ : ℝ) : EReal))) = ((Real.log 4⁻¹ : ℝ) : EReal) := by
  rw [Fin.sum_univ_four, ← EReal.coe_add, ← EReal.coe_add, ← EReal.coe_add, div_coe _ _ (by norm_num), RefNoise.log_coe _ (by norm_num)]
  norm_num

/-- The logit of six equal weights. -/
theorem logit6 : Ideal.log (Ideal.div ((6⁻¹ : ℝ) : EReal) (∑ _x : Fin 6, ((6⁻¹ : ℝ) : EReal))) = ((Real.log 6⁻¹ : ℝ) : EReal) := by
  rw [Fin.sum_univ_six, ← EReal.coe_add, ← EReal.coe_add, ← EReal.coe_add, ← EReal.coe_add, ← EReal.coe_add, div_coe _ _ (by norm_num),
    RefNoise.log_coe _ (by norm_num)]
  norm_num

/-- The first greatest noise, all logits equal, is the noise of the first greatest key. -/
theorem best_of_first {n : ℕ} {K : Fin n → BitVec 32} (hK : ∀ k, (K k).toNat < 2 ^ 23) {c : ℝ} {m : Fin n}
    (hf : RefPick.First (fun k => RefNoise.G (K k).toNat + c) m) : PickFirst.Best K m := by
  intro k
  rcases lt_trichotomy (K k).toNat (K m).toNat with h | h | h
  · exact .inl h
  · rcases hf k with g | ⟨_, g⟩
    · simp only [h] at g
      exact absurd g (lt_irrefl _)
    · exact .inr ⟨h, g⟩
  · have := RefNoise.G_mono h (hK k)
    rcases hf k with g | ⟨g, _⟩ <;> linarith

/-- The cut-off below at zero, of four arrays. -/
theorem relu4 {a0 : StableHlo.TRef sig ⟨S4x16384x128, .f32⟩} {φ : fn_relu.Bufs} (h : Solves W (fn_relu.body (F := Ideal) a0 φ))
    (m : Fin 4) (r : Fin 16384) (j : Fin 128) : val W φ.v1 (ix3 m r j) = max (val W a0 (ix3 m r j)) 0 := by
  obtain ⟨e_cst, h⟩ := h.nul
  obtain ⟨e_v0, h⟩ := h.un
  obtain ⟨e_v1, h⟩ := h.bin
  clear h
  rw [e_v1, e_v0, e_cst]
  pointwise []

/-- The cut-off below at zero, of six arrays. -/
theorem relu6 {a0 : StableHlo.TRef sig ⟨S6x16384x128, .f32⟩} {φ : fn_relu_0.Bufs} (h : Solves W (fn_relu_0.body (F := Ideal) a0 φ))
    (m : Fin 6) (r : Fin 16384) (j : Fin 128) : val W φ.v1 (ix3 m r j) = max (val W a0 (ix3 m r j)) 0 := by
  obtain ⟨e_cst, h⟩ := h.nul
  obtain ⟨e_v0, h⟩ := h.un
  obtain ⟨e_v1, h⟩ := h.bin
  clear h
  rw [e_v1, e_v0, e_cst]
  pointwise []

set_option maxHeartbeats 4000000 in
/-- The buffers of the first part: the second result; the second outputs and their weights as the third
result takes them; and the availabilities and equal weights of the six candidates. -/
theorem part0 (d : Dev nD) {X0 X1 : FVec Ideal S4x16384x128 .f32} {A7 : FVec Ideal S4 .f32} {W1 : FVec Ideal S4x128x128 .f32}
    (a0 : W (at' main_arg0) = X0) (a1 : W (at' main_arg1) = X1) (a3 : W (at' main_arg3) = W1) (a7 : W (at' main_arg7) = A7)
    (h : Solves W (main_part0 (F := Ideal) d))
    (h2 : ∀ k, (W (at' main_arg2) : FVec Ideal S4 .f32) (ix1 k) = (1 : EReal))
    (h4 : ∀ m j, (W (at' main_arg4) : FVec Ideal S4x128 .f32) (ix2 m j) = (0 : EReal)) :
    (∀ r j, @Eq EReal ((W (at' main_v37) : FVec Ideal S16384x128 .f32) (ix2 r j)) (Spec.out1 X0 W1 r j))
    ∧ (∀ r k j, @Eq EReal ((W (at' main_v38) : FVec Ideal S16384x4x128 .f32) (ix3 r k j)) (X1 (ix3 k r j)))
    ∧ (∀ r k j, @Eq EReal ((W (at' main_v48) : FVec Ideal S16384x4x128 .f32) (ix3 r k j)) (Ideal.div (A7 (ix1 k)) (∑ x, A7 (ix1 x))))
    ∧ (∀ r k, @Eq EReal ((W (at' main_v3) : FVec Ideal S16384x6 .f32) (ix2 r k)) 1)
    ∧ (∀ r k, @Eq EReal ((W (at' main_v9) : FVec Ideal S16384x6 .f32) (ix2 r k)) ((6⁻¹ : ℝ) : EReal)) := by
  obtain ⟨e_v0, h⟩ := h.un'
  obtain ⟨e_v1, h⟩ := h.un'
  obtain ⟨e_cst, h⟩ := h.nul'
  obtain ⟨e_v2, h⟩ := h.un'
  obtain ⟨e_v3, h⟩ := h.bin'
  obtain ⟨e_cst_0, h⟩ := h.nul'
  obtain ⟨e_v4, h⟩ := h.un'
  obtain ⟨e_cst_1, h⟩ := h.nul'
  obtain ⟨e_v5, h⟩ := h.un'
  obtain ⟨e_v6, h⟩ := h.bin'
  obtain ⟨e_cst_2, h⟩ := h.nul'
  obtain ⟨e_v7, h⟩ := h.un'
  obtain ⟨e_cst_3, h⟩ := h.nul'
  obtain ⟨e_v8, h⟩ := h.un'
  obtain ⟨e_v9, h⟩ := h.bin'
  obtain ⟨e_v10, h⟩ := h.un'
  obtain ⟨e_c, h⟩ := h.nul'
  obtain ⟨e_c_4, h⟩ := h.nul'
  obtain ⟨e_v11, h⟩ := h.bin'
  obtain ⟨e_v12, h⟩ := h.un'
  obtain ⟨e_v13, h⟩ := h.un'
  obtain ⟨e_c_5, h⟩ := h.nul'
  obtain ⟨e_v14, h⟩ := h.bin'
  obtain ⟨e_v15, h⟩ := h.un'
  obtain ⟨e_v16, h⟩ := h.un'
  obtain ⟨e_v17, h⟩ := h.bin'
  obtain ⟨e_v18, h⟩ := h.bin'
  obtain ⟨e_v19, h⟩ := h.un'
  obtain ⟨e_v20, h⟩ := h.un'
  obtain ⟨e_v21, h⟩ := h.bin'
  obtain ⟨h_call0, h⟩ := h.both
  obtain ⟨e_v23, h⟩ := h.bin'
  obtain ⟨e_cst_6, h⟩ := h.nul'
  obtain ⟨e_v24, h⟩ := h.bin'
  obtain ⟨e_v25, h⟩ := h.un'
  obtain ⟨e_v26, h⟩ := h.un'
  obtain ⟨e_v27, h⟩ := h.bin'
  obtain ⟨e_v28, h⟩ := h.un'
  obtain ⟨e_v29, h⟩ := h.un'
  obtain ⟨e_v30, h⟩ := h.un'
  obtain ⟨h_call1, h⟩ := h.both
  obtain ⟨e_v32, h⟩ := h.bin'
  obtain ⟨h_call2, h⟩ := h.both
  obtain ⟨h_call3, h⟩ := h.both
  obtain ⟨e_v35, h⟩ := h.un'
  obtain ⟨e_v36, h⟩ := h.bin'
  obtain ⟨e_cst_7, h⟩ := h.nul'
  obtain ⟨e_v37, h⟩ := h.bin'
  obtain ⟨e_v38, h⟩ := h.un'
  obtain ⟨e_v39, h⟩ := h.un'
  obtain ⟨e_v40, h⟩ := h.un'
  obtain ⟨e_v41, h⟩ := h.un'
  obtain ⟨e_v42, h⟩ := h.bin'
  obtain ⟨e_cst_8, h⟩ := h.nul'
  obtain ⟨e_v43, h⟩ := h.bin'
  obtain ⟨e_v44, h⟩ := h.un'
  obtain ⟨e_v45, h⟩ := h.un'
  obtain ⟨e_v46, h⟩ := h.bin'
  obtain ⟨e_v47, h⟩ := h.un'
  have e_v48 := h.lastUn'
  clear * - h2 h4 a0 a1 a3 a7 e_v0 e_v1 e_cst e_v2 e_v3 e_cst_0 e_v4 e_cst_1 e_v5 e_v6 e_cst_2 e_v7 e_cst_3 e_v8 e_v9 e_v10 e_c e_c_4 e_v11 e_v12 e_v13 e_c_5 e_v14 e_v15 e_v16 e_v17 e_v18 e_v19 e_v20 e_v21 h_call0 e_v23 e_cst_6 e_v24 e_v25 e_v26 e_v27 e_v28 e_v29 e_v30 h_call1 e_v32 h_call2 h_call3 e_v35 e_v36 e_cst_7 e_v37 e_v38 e_v39 e_v40 e_v41 e_v42 e_cst_8 e_v43 e_v44 e_v45 e_v46 e_v47 e_v48
  have q3 : ∀ r k, @Eq EReal ((W (at' main_v3) : FVec Ideal S16384x6 .f32) (ix2 r k)) 1 := by
    intro r k
    rw [e_v3, e_v2, e_v1, e_v0, e_cst]
    pointwise []
    split_ifs
    · exact h2 _
    · rfl
  have q9 : ∀ r k, @Eq EReal ((W (at' main_v9) : FVec Ideal S16384x6 .f32) (ix2 r k)) ((6⁻¹ : ℝ) : EReal) := by
    intro r k
    rw [e_v9, e_v8, e_v7, e_cst_2, e_cst_3]
    pointwise []
    rw [ofBits_six, div_one _ (by norm_num)]
  have q17a : (W (at' main_v17) : IVec S2 32) (ix1 0) = 0#32 := by
    rw [e_v17, e_v13, e_v12, e_v11, e_c, e_c_4]
    unfold id
    pointwise []
    simp [IntOp.shrui, IntOp.cornerWord]
  have q17b : (W (at' main_v17) : IVec S2 32) (ix1 1) = 42#32 := by
    rw [e_v17, e_v16, e_v15, e_v14, e_c, e_c_5]
    unfold id
    pointwise []
    rfl
  have q23 : ∀ r k, @Eq EReal ((W (at' main_v23) : FVec Ideal S16384x4 .f32) (ix2 r k)) ((4⁻¹ : ℝ) : EReal) := by
    intro r k
    rw [e_v23, e_v10, e_v6, e_v5, e_v4, e_cst_0, e_cst_1]
    pointwise []
    rw [q3, mul_one, ofBits_four, div_one _ (by norm_num)]
  have q30 : ∀ r j k, @Eq EReal ((W (at' main_v30) : FVec Ideal S16384x128x4 .f32) (ix3 r j k)) ((Real.log 4⁻¹ : ℝ) : EReal) := by
    intro r j k
    rw [e_v30, e_v29, e_v28, e_v27, e_v26, e_v25, e_v24, e_cst_6]
    pointwise []
    simp only [q23]
    exact logit4
  have q32 : ∀ r j k, @Eq EReal ((W (at' main_v32) : FVec Ideal S16384x128x4 .f32) (ix3 r j k))
      ((RefNoise.G (Spec.key 42#32 4 (r.val * 128 + j.val) k.val).toNat + Real.log 4⁻¹ : ℝ) : EReal) := by
    intro r j k
    have g : @Eq EReal ((W (at' main_v31) : FVec Ideal S16384x128x4 .f32) (ix3 r j k)) _ := RefNoise.gumbel4 h_call1 q17a q17b r j k
    rw [e_v32]
    pointwise []
    rw [q30, g, RefNoise.noise_eq _ (RefNoise.key_lt ..), EReal.coe_add]
  have q22 : ∀ m r j, @Eq EReal ((W (at' main_v22) : FVec Ideal S4x16384x128 .f32) (ix3 m r j))
      (max (∑ x, X0 (ix3 m r x) * W1 (ix3 m x j)) 0) := by
    intro m r j
    refine (relu4 h_call0 m r j).trans ?_
    show @max EReal _ ((W (at' main_v21) : FVec Ideal S4x16384x128 .f32) (ix3 m r j)) 0 = _
    rw [e_v21, e_v20, e_v19, e_v18, a0, a3]
    pointwise []
    rw [h4, add_zero]
  have q37 : ∀ r j, @Eq EReal ((W (at' main_v37) : FVec Ideal S16384x128 .f32) (ix2 r j)) (Spec.out1 X0 W1 r j) := by
    intro r j
    obtain ⟨m, hm, hf⟩ := RefPick.argmax4 h_call2 r j (q32 r j)
    have ho : ∀ k, @Eq EReal ((W (at' main_v34) : FVec Ideal S16384x128x4 .f32) (ix3 r j k)) (if k = m then 1 else 0) := RefPick.oneHot4 h_call3 r j hm
    rw [e_v37, e_v36, e_v35, e_cst_7]
    pointwise []
    unfold Spec.out1
    rw [PickFirst.pick4_eq (fun k => RefNoise.key_lt ..) _ (best_of_first (fun k => RefNoise.key_lt ..) hf),
      ← PickFirst.sum_indicator (fun k => max (∑ x, X0 (ix3 k r x) * W1 (ix3 k x j)) 0) m]
    exact Finset.sum_congr rfl fun k _ => by rw [q22, ho]
  have q38 : ∀ r k j, @Eq EReal ((W (at' main_v38) : FVec Ideal S16384x4x128 .f32) (ix3 r k j)) (X1 (ix3 k r j)) := by
    intro r k j
    rw [e_v38, a1]
    pointwise []
  have q48 : ∀ r k j, @Eq EReal ((W (at' main_v48) : FVec Ideal S16384x4x128 .f32) (ix3 r k j)) (Ideal.div (A7 (ix1 k)) (∑ x, A7 (ix1 x))) := by
    intro r k j
    rw [e_v48, e_v47, e_v46, e_v45, e_v44, e_v43, e_v42, e_v41, e_v40, e_v39, e_cst_8, a7]
    pointwise []
    simp only [q3, mul_one]
  exact ⟨q37, q38, q48, q3, q9⟩

/-- Six numbers listed one by one. -/
theorem list6 (f : Fin 6 → EReal) {b0 b1 b2 b3 b4 b5 : EReal} (h0 : f 0 = b0) (h1 : f 1 = b1) (h2 : f 2 = b2) (h3 : f 3 = b3)
    (h4 : f 4 = b4) (h5 : f 5 = b5) : ![b0, b1, b2, b3, b4, b5] = f := by
  subst h0 h1 h2 h3 h4 h5
  funext k
  fin_cases k <;> rfl

/-- The rows of the six candidates: the second outputs, the second result and the third. -/
def row (X0 X1 : FVec Ideal S4x16384x128 .f32) (W1 : FVec Ideal S4x128x128 .f32) (w : Fin 4 → EReal) (r : Fin 16384) (m : Fin 6) (x : Fin 128) : EReal :=
  if h : m.val < 4 then X1 (ix3 ⟨m.val, h⟩ r x) else if _h : m.val - 4 < 1 then Spec.out1 X0 W1 r x else Spec.ws X1 w r x

/-- The first result, its six candidates' rows told apart by their number. -/
theorem out_eq (X0 X1 : FVec Ideal S4x16384x128 .f32) (W1 : FVec Ideal S4x128x128 .f32) (W2 : FVec Ideal S6x128x128 .f32) (w : Fin 4 → EReal)
    (r : Fin 16384) (j : Fin 128) : Spec.out X0 X1 W1 W2 w r j = Spec.pick6 (fun m => Spec.key 43#32 6 (r.val * 128 + j.val) m.val) fun m =>
      max (∑ x, row X0 X1 W1 w r m x
        * W2 (ix3 m x j)) 0 := by
  unfold Spec.out
  exact congrArg (Spec.pick6 _) (list6 _
    (congrArg (max · 0) (Finset.sum_congr rfl fun x _ => congrArg (· * W2 (ix3 0 x j)) (dif_pos (by decide))))
    (congrArg (max · 0) (Finset.sum_congr rfl fun x _ => congrArg (· * W2 (ix3 1 x j)) (dif_pos (by decide))))
    (congrArg (max · 0) (Finset.sum_congr rfl fun x _ => congrArg (· * W2 (ix3 2 x j)) (dif_pos (by decide))))
    (congrArg (max · 0) (Finset.sum_congr rfl fun x _ => congrArg (· * W2 (ix3 3 x j)) (dif_pos (by decide))))
    (congrArg (max · 0) (Finset.sum_congr rfl fun x _ => congrArg (· * W2 (ix3 4 x j)) ((dif_neg (by decide)).trans (dif_pos (by decide)))))
    (congrArg (max · 0) (Finset.sum_congr rfl fun x _ => congrArg (· * W2 (ix3 5 x j)) ((dif_neg (by decide)).trans (dif_neg (by decide))))))

set_option maxHeartbeats 4000000 in
/-- The buffers of the second part: the third result and the first. -/
theorem part1 (d : Dev nD) {X0 X1 : FVec Ideal S4x16384x128 .f32} {W1 : FVec Ideal S4x128x128 .f32} {W2 : FVec Ideal S6x128x128 .f32}
    {w : Fin 4 → EReal} (a1 : W (at' main_arg1) = X1) (a5 : W (at' main_arg5) = W2) (h : Solves W (main_part1 (F := Ideal) d))
    (h6 : ∀ m j, (W (at' main_arg6) : FVec Ideal S6x128 .f32) (ix2 m j) = (0 : EReal))
    (q37 : ∀ r j, @Eq EReal ((W (at' main_v37) : FVec Ideal S16384x128 .f32) (ix2 r j)) (Spec.out1 X0 W1 r j))
    (q38 : ∀ r k j, @Eq EReal ((W (at' main_v38) : FVec Ideal S16384x4x128 .f32) (ix3 r k j)) (X1 (ix3 k r j)))
    (q48 : ∀ r k j, @Eq EReal ((W (at' main_v48) : FVec Ideal S16384x4x128 .f32) (ix3 r k j)) (w k))
    (q3 : ∀ r k, @Eq EReal ((W (at' main_v3) : FVec Ideal S16384x6 .f32) (ix2 r k)) 1)
    (q9 : ∀ r k, @Eq EReal ((W (at' main_v9) : FVec Ideal S16384x6 .f32) (ix2 r k)) ((6⁻¹ : ℝ) : EReal)) :
    (∀ r j, @Eq EReal ((W (at' main_v50) : FVec Ideal S16384x128 .f32) (ix2 r j)) (Spec.ws X1 w r j))
    ∧ (∀ r j, @Eq EReal ((W (at' main_v80) : FVec Ideal S16384x128 .f32) (ix2 r j)) (Spec.out X0 X1 W1 W2 w r j)) := by
  obtain ⟨e_v49, h⟩ := h.bin'
  obtain ⟨e_cst_9, h⟩ := h.nul'
  obtain ⟨e_v50, h⟩ := h.bin'
  obtain ⟨e_v51, h⟩ := h.un'
  obtain ⟨e_v52, h⟩ := h.un'
  obtain ⟨e_v53, h⟩ := h.nary'
  obtain ⟨e_c_10, h⟩ := h.nul'
  obtain ⟨e_c_11, h⟩ := h.nul'
  obtain ⟨e_v54, h⟩ := h.bin'
  obtain ⟨e_v55, h⟩ := h.un'
  obtain ⟨e_v56, h⟩ := h.un'
  obtain ⟨e_c_12, h⟩ := h.nul'
  obtain ⟨e_v57, h⟩ := h.bin'
  obtain ⟨e_v58, h⟩ := h.un'
  obtain ⟨e_v59, h⟩ := h.un'
  obtain ⟨e_v60, h⟩ := h.bin'
  obtain ⟨e_v61, h⟩ := h.bin'
  obtain ⟨e_v62, h⟩ := h.un'
  obtain ⟨e_v63, h⟩ := h.un'
  obtain ⟨e_v64, h⟩ := h.bin'
  obtain ⟨h_call4, h⟩ := h.both
  obtain ⟨e_v66, h⟩ := h.bin'
  obtain ⟨e_cst_13, h⟩ := h.nul'
  obtain ⟨e_v67, h⟩ := h.bin'
  obtain ⟨e_v68, h⟩ := h.un'
  obtain ⟨e_v69, h⟩ := h.un'
  obtain ⟨e_v70, h⟩ := h.bin'
  obtain ⟨e_v71, h⟩ := h.un'
  obtain ⟨e_v72, h⟩ := h.un'
  obtain ⟨e_v73, h⟩ := h.un'
  obtain ⟨h_call5, h⟩ := h.both
  obtain ⟨e_v75, h⟩ := h.bin'
  obtain ⟨h_call6, h⟩ := h.both
  obtain ⟨h_call7, h⟩ := h.both
  obtain ⟨e_v78, h⟩ := h.un'
  obtain ⟨e_v79, h⟩ := h.bin'
  obtain ⟨e_cst_14, h⟩ := h.nul'
  obtain ⟨e_v80, h⟩ := h.bin'
  clear * - h6 a1 a5 q37 q38 q48 q3 q9 e_v49 e_cst_9 e_v50 e_v51 e_v52 e_v53 e_c_10 e_c_11 e_v54 e_v55 e_v56 e_c_12 e_v57 e_v58 e_v59 e_v60 e_v61 e_v62 e_v63 e_v64 h_call4 e_v66 e_cst_13 e_v67 e_v68 e_v69 e_v70 e_v71 e_v72 e_v73 h_call5 e_v75 h_call6 h_call7 e_v78 e_v79 e_cst_14 e_v80
  have q50 : ∀ r j, @Eq EReal ((W (at' main_v50) : FVec Ideal S16384x128 .f32) (ix2 r j)) (Spec.ws X1 w r j) := by
    intro r j
    rw [e_v50, e_v49, e_cst_9]
    pointwise []
    rw [Fin.sum_univ_four]
    simp only [q38, q48]
    rfl
  have q60a : (W (at' main_v60) : IVec S2 32) (ix1 0) = 0#32 := by
    rw [e_v60, e_v56, e_v55, e_v54, e_c_10, e_c_11]
    unfold id
    pointwise []
    simp [IntOp.shrui, IntOp.cornerWord]
  have q60b : (W (at' main_v60) : IVec S2 32) (ix1 1) = 43#32 := by
    rw [e_v60, e_v59, e_v58, e_v57, e_c_10, e_c_12]
    unfold id
    pointwise []
    rfl
  have q66 : ∀ r k, @Eq EReal ((W (at' main_v66) : FVec Ideal S16384x6 .f32) (ix2 r k)) ((6⁻¹ : ℝ) : EReal) := by
    intro r k
    rw [e_v66]
    pointwise []
    rw [q3, q9, mul_one]
  have q73 : ∀ r j k, @Eq EReal ((W (at' main_v73) : FVec Ideal S16384x128x6 .f32) (ix3 r j k)) ((Real.log 6⁻¹ : ℝ) : EReal) := by
    intro r j k
    rw [e_v73, e_v72, e_v71, e_v70, e_v69, e_v68, e_v67, e_cst_13]
    pointwise []
    simp only [q66]
    exact logit6
  have q75 : ∀ r j k, @Eq EReal ((W (at' main_v75) : FVec Ideal S16384x128x6 .f32) (ix3 r j k))
      ((RefNoise.G (Spec.key 43#32 6 (r.val * 128 + j.val) k.val).toNat + Real.log 6⁻¹ : ℝ) : EReal) := by
    intro r j k
    have g : @Eq EReal ((W (at' main_v74) : FVec Ideal S16384x128x6 .f32) (ix3 r j k)) _ := RefNoise.gumbel6 h_call5 q60a q60b r j k
    rw [e_v75]
    pointwise []
    rw [q73, g, RefNoise.noise_eq _ (RefNoise.key_lt ..), EReal.coe_add]
  have q53 : ∀ m r x, @Eq EReal ((W (at' main_v53) : FVec Ideal S6x16384x128 .f32) (ix3 m r x))
      (row X0 X1 W1 w r m x) := by
    intro m r x
    have e : W (at' main_v53) = concatenate S6x16384x128 0 [⟨S4x16384x128, X1⟩, ⟨S1x16384x128, W (at' main_v51)⟩, ⟨S1x16384x128, W (at' main_v52)⟩]
      concatenates_S4x16384x128_S1x16384x128_S1x16384x128_S6x16384x128_d0 := by rw [← a1]; exact e_v53
    rw [e, e_v51, e_v52]
    pointwise []
    rw [q37, q50]
    rfl
  have q65 : ∀ m r j, @Eq EReal ((W (at' main_v65) : FVec Ideal S6x16384x128 .f32) (ix3 m r j))
      (max (∑ x, row X0 X1 W1 w r m x
        * W2 (ix3 m x j)) 0) := by
    intro m r j
    refine (relu6 h_call4 m r j).trans ?_
    show @max EReal _ ((W (at' main_v64) : FVec Ideal S6x16384x128 .f32) (ix3 m r j)) 0 = _
    rw [e_v64, e_v63, e_v62, e_v61, a5]
    pointwise []
    simp only [q53]
    rw [h6, add_zero]
  have q80 : ∀ r j, @Eq EReal ((W (at' main_v80) : FVec Ideal S16384x128 .f32) (ix2 r j)) (Spec.out X0 X1 W1 W2 w r j) := by
    intro r j
    obtain ⟨m, hm, hf⟩ := RefPick.argmax6 h_call6 r j (q75 r j)
    have ho : ∀ k, @Eq EReal ((W (at' main_v77) : FVec Ideal S16384x128x6 .f32) (ix3 r j k)) (if k = m then 1 else 0) := RefPick.oneHot6 h_call7 r j hm
    rw [e_v80, e_v79, e_v78, e_cst_14]
    pointwise []
    rw [out_eq, PickFirst.pick6_eq (fun k => RefNoise.key_lt ..) _ (best_of_first (fun k => RefNoise.key_lt ..) hf)]
    refine Eq.trans ?_ (PickFirst.sum_indicator (fun k => max (∑ x, row X0 X1 W1 w r k x * W2 (ix3 k x j)) 0) m)
    refine Finset.sum_congr rfl fun k _ => ?_
    exact congrArg₂ (· * ·) (q65 k r j) (ho k)
  exact ⟨q50, q80⟩

end RefValue
-- ==== Proof.RefResult.lean ====
module

public import proofs.«01_k».proof.Proof.RefValue
public import proofs.«01_k».proof.Proof.RefRun

/-! The reference's three results, for arguments that mark every candidate available and carry no bias. -/

set_option maxRecDepth 100000

@[expose] public section

noncomputable section

namespace RefValue

open Cert.ReferenceIdeal Cert.ReferenceIdeal.Gen Idealize.ShloMosaic Idealize.ShloMosaic.TcCoe Idealize.SL.Sem
open Line (Solves at')

variable {W : Valuation τ sig (Elt Ideal)}

/-- What the three result buffers hold, in terms of the arguments. -/
theorem results (d : Dev nD) {X0 X1 : FVec Ideal S4x16384x128 .f32} {A2 A7 : FVec Ideal S4 .f32} {W1 : FVec Ideal S4x128x128 .f32}
    {A4 : FVec Ideal S4x128 .f32} {W2 : FVec Ideal S6x128x128 .f32} {A6 : FVec Ideal S6x128 .f32} {w : Fin 4 → EReal}
    (a0 : W (at' main_arg0) = X0) (a1 : W (at' main_arg1) = X1) (a2 : W (at' main_arg2) = A2) (a3 : W (at' main_arg3) = W1)
    (a4 : W (at' main_arg4) = A4) (a5 : W (at' main_arg5) = W2) (a6 : W (at' main_arg6) = A6) (a7 : W (at' main_arg7) = A7)
    (h2 : ∀ k, A2 (ix1 k) = (1 : EReal)) (h4 : ∀ m j, A4 (ix2 m j) = (0 : EReal)) (h6 : ∀ m j, A6 (ix2 m j) = (0 : EReal))
    (hw : ∀ k, Ideal.div (A7 (ix1 k)) (∑ x, A7 (ix1 x)) = w k) (h : Solves W (main (F := Ideal) d)) :
    (W (at' main_v80) = fun y : S16384x128.Idx => Spec.out X0 X1 W1 W2 w (y 0) (y 1))
    ∧ (W (at' main_v37) = fun y : S16384x128.Idx => Spec.out1 X0 W1 (y 0) (y 1))
    ∧ (W (at' main_v50) = fun y : S16384x128.Idx => Spec.ws X1 w (y 0) (y 1)) := by
  obtain ⟨p0, p1⟩ := h.both
  obtain ⟨q37, q38, q48, q3, q9⟩ := part0 d a0 a1 a3 a7 p0 (by rw [a2]; exact h2) (by rw [a4]; exact h4)
  obtain ⟨q50, q80⟩ := part1 d a1 a5 p1 (by rw [a6]; exact h6) q37 q38 (fun r k j => (q48 r k j).trans (hw k)) q3 q9
  refine ⟨?_, ?_, ?_⟩
  · funext y
    idx_vars y
    exact q80 y0 y1
  · funext y
    idx_vars y
    exact q37 y0 y1
  · funext y
    idx_vars y
    exact q50 y0 y1

end RefValue
-- ==== Proof.Equal.lean ====
module

public import proofs.«01_k».proof.Defs
public import proofs.«01_k».proof.Proof.KernelValue
public import proofs.«01_k».proof.Proof.RefResult
public import proofs.«01_k».proof.Proof.Gen.KernelIdeal.Value

/-! The equation: kernel and reference end with the same three results. -/

set_option maxRecDepth 100000

@[expose] public section

noncomputable section

namespace Equal

open Cert.KernelIdeal.Gen Cert.ReferenceIdeal.Gen Idealize.ShloMosaic Idealize.ShloMosaic.TcCoe Idealize.SL.Sem
open Cert.KernelIdeal (S4 S4x128 S6x128 S4x16384x128 S4x128x128 S6x128x128)

/-- The side conditions of the precondition's operations. -/
instance facts : Cert.Pre_all_available_no_bias.Facts := ⟨by decide, by decide, by decide⟩

/-- Two numbers that compare equal are equal. -/
theorem eq_of_cmpf {x y : EReal} (h : FloatOps.cmpf (F := Ideal) (φ := .f32) .oeq x y = 1#1) : x = y := by
  by_contra hn
  rw [Ideal.cmpf_def] at h
  simp [Ideal.cmp, hn] at h

/-- The precondition in plain words: every availability is one and every bias is zero. -/
theorem plain {A0 A1 : FVec Ideal S4x16384x128 .f32} {A2 A7 : FVec Ideal S4 .f32} {A3 : FVec Ideal S4x128x128 .f32} {A4 : FVec Ideal S4x128 .f32}
    {A5 : FVec Ideal S6x128x128 .f32} {A6 : FVec Ideal S6x128 .f32}
    (h : (Cert.Pre_all_available_no_bias.fn A0 A1 A2 A3 A4 A5 A6 A7).1 = (fun _ => 1#1)
      ∧ (Cert.Pre_all_available_no_bias.fn A0 A1 A2 A3 A4 A5 A6 A7).2.1 = (fun _ => 1#1)
      ∧ (Cert.Pre_all_available_no_bias.fn A0 A1 A2 A3 A4 A5 A6 A7).2.2 = (fun _ => 1#1)) :
    (∀ k, A2 (ix1 k) = (1 : EReal)) ∧ (∀ m j, A4 (ix2 m j) = (0 : EReal)) ∧ ∀ m j, A6 (ix2 m j) = (0 : EReal) := by
  have z : Ideal.ofBits .f32 0x00000000#32 = (0 : EReal) := by simp [Ideal.ofBits, Ideal.ieee, -EReal.coe_mul]
  refine ⟨fun k => ?_, fun m j => ?_, fun m j => ?_⟩
  · have e : FloatOps.cmpf (F := Ideal) (φ := .f32) .oeq (A2 (ix1 k)) (Ideal.ofBits .f32 0x3F800000#32) = 1#1 := congrFun h.1 (ix1 k)
    exact (eq_of_cmpf e).trans RefNoise.ofBits_one
  · have e : FloatOps.cmpf (F := Ideal) (φ := .f32) .oeq (A4 (ix2 m j)) (Ideal.ofBits .f32 0x00000000#32) = 1#1 := congrFun h.2.1 (ix2 m j)
    exact (eq_of_cmpf e).trans z
  · have e : FloatOps.cmpf (F := Ideal) (φ := .f32) .oeq (A6 (ix2 m j)) (Ideal.ofBits .f32 0x00000000#32) = 1#1 := congrFun h.2.2 (ix2 m j)
    exact (eq_of_cmpf e).trans z

/-- The kernel's weights, every availability being one. -/
theorem weight_one {A2 A7 : FVec Ideal S4 .f32} (h2 : ∀ k, A2 (ix1 k) = (1 : EReal)) (k : Fin 4) :
    Ideal.div (A7 (ix1 k)) (∑ x, A7 (ix1 x)) = KernelValue.weight A2 A7 k := by
  unfold KernelValue.weight
  simp only [h2, mul_one]
  rfl

/-- From the same arguments, every availability one and every bias zero, kernel and reference end with equal results. -/
theorem algebraic : Cert.algebraic_KernelIdeal_ReferenceIdeal_pre_all_available_no_bias := by
  intro m g m' g' hp ha
  refine ⟨_, _, _, (θ_run _ _ _).mono (fun r h c => h c) (Cert.KernelIdeal.Value.run_blocks m g),
    (θ_run _ _ _).mono (fun r h c => ?_) (Ref.run m' g')⟩
  obtain ⟨W, hs, hW, hk⟩ := h.2 c
  obtain ⟨b0, b1, b2, b3, b4, b5, b6, b7⟩ := ha c
  obtain ⟨h2, h4, h6⟩ := plain (hp c)
  obtain ⟨r0, r1, r2⟩ := RefValue.results c ((hk _ (by decide)).trans b0) ((hk _ (by decide)).trans b1) ((hk _ (by decide)).trans b2)
    ((hk _ (by decide)).trans b3) ((hk _ (by decide)).trans b4) ((hk _ (by decide)).trans b5) ((hk _ (by decide)).trans b6)
    ((hk _ (by decide)).trans b7) h2 h4 h6 (weight_one h2) hs
  refine ⟨(hW _).trans (r0.trans (KernelValue.arr5 m c).symm), (hW _).trans (r1.trans (KernelValue.arr6 m c).symm),
    (hW _).trans (r2.trans (KernelValue.arr7 m c).symm), ?_, ?_, ?_, ?_, ?_, ?_, ?_, ?_⟩ <;> exact (hW _).trans (hk _ (by decide))

end Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import Idealize.ShloMosaic.Adequacy
public import proofs.«01_k».proof.Proof.RefRun
public import proofs.«01_k».proof.Proof.Equal
public import Idealize.ShloMosaic.Init

@[expose] public section

noncomputable section

namespace Cert.Proof

open Idealize.ShloMosaic Idealize.SL.Sem

/-- The three programs run with their arguments kept; the edited kernel keeps the kernel's operations; and from arguments that
    mark every candidate available and carry no bias, kernel and reference end with equal results. -/
theorem claim : Cert.Claim := ⟨Cert.Kernel.Gen.facts, Cert.KernelIdeal.Gen.facts, Cert.ReferenceIdeal.Gen.facts, Equal.facts,
  fun m ρ _ => Cert.Kernel.Gen.frame m ρ, fun m ρ _ => Cert.KernelIdeal.Gen.frame m ρ, fun m ρ _ => Cert.KernelIdeal.Gen.frame m ρ,
  fun m ρ _ => Ref.frame m ρ, fun m ρ _ => Ref.frame m ρ, trivial, Equal.algebraic⟩

end Cert.Proof

end
